-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000 : Shape := ⟨1, ![100000]⟩
abbrev S1600000 : Shape := ⟨1, ![1600000]⟩
abbrev S8 : Shape := ⟨1, ![8]⟩
abbrev S64 : Shape := ⟨1, ![64]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S100000 32) (main_arg4 : IVec S1600000 32) (main_v14 : IVec S_ 1) (main_c_7 : IVec S_ 32) : IVec S_ 1 :=
  let main_v15 : IVec S100000 32 := broadcastInDim S100000 ![] bcast_S_S100000 main_c_7
  let main_v16 : IVec S100000 1 := cmpi .sge main_arg3 main_v15
  let main_c_8 : IVec S_ 1 := constantI S_ 1 1#1
  let main_v17 : IVec S_ 1 := (fun x v => Host.reduce IntOp.andi x v reducesTo_S100000_S_d0 h_S_) main_v16 main_c_8
  let main_v18 : IVec S_ 1 := andi main_v14 main_v17
  let main_c_9 : IVec S_ 32 := constantI S_ 32 1024#32
  let main_v19 : IVec S100000 32 := broadcastInDim S100000 ![] bcast_S_S100000 main_c_9
  let main_v20 : IVec S100000 1 := cmpi .slt main_arg3 main_v19
  let main_c_10 : IVec S_ 1 := constantI S_ 1 1#1
  let main_v21 : IVec S_ 1 := (fun x v => Host.reduce IntOp.andi x v reducesTo_S100000_S_d0 h_S_) main_v20 main_c_10
  let main_v22 : IVec S_ 1 := andi main_v18 main_v21
  let main_c_11 : IVec S_ 32 := constantI S_ 32 0#32
  let main_v23 : IVec S1600000 32 := broadcastInDim S1600000 ![] bcast_S_S1600000 main_c_11
  let main_v24 : IVec S1600000 1 := cmpi .sge main_arg4 main_v23
  let main_c_12 : IVec S_ 1 := constantI S_ 1 1#1
  let main_v25 : IVec S_ 1 := (fun x v => Host.reduce IntOp.andi x v reducesTo_S1600000_S_d0 h_S_) main_v24 main_c_12
  let main_v26 : IVec S_ 1 := andi main_v22 main_v25
  let main_c_13 : IVec S_ 32 := constantI S_ 32 1024#32
  let main_v27 : IVec S1600000 32 := broadcastInDim S1600000 ![] bcast_S_S1600000 main_c_13
  let main_v28 : IVec S1600000 1 := cmpi .slt main_arg4 main_v27
  let main_c_14 : IVec S_ 1 := constantI S_ 1 1#1
  let main_v29 : IVec S_ 1 := (fun x v => Host.reduce IntOp.andi x v reducesTo_S1600000_S_d0 h_S_) main_v28 main_c_14
  let main_v30 : IVec S_ 1 := andi main_v26 main_v29
  main_v30

def fn {F : FTy → Type} [FloatOps F] (main_arg0 : IVec S100000 32) (main_arg1 : FVec F S1600000 .f32) (main_arg2 : IVec S1600000 32) (main_arg3 : IVec S100000 32) (main_arg4 : IVec S1600000 32) (main_arg5 : FVec F S8 .f32) (main_arg6 : FVec F S64 .f32) : IVec S_ 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 8#32
  let main_v3 : IVec S100000 32 := broadcastInDim S100000 ![] bcast_S_S100000 main_c_1
  let main_v4 : IVec S100000 1 := cmpi .slt main_arg0 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_c_3 : IVec S_ 32 := constantI S_ 32 0#32
  let main_v7 : IVec S1600000 32 := broadcastInDim S1600000 ![] bcast_S_S1600000 main_c_3
  let main_v8 : IVec S1600000 1 := cmpi .sge main_arg2 main_v7
  let main_c_4 : IVec S_ 1 := constantI S_ 1 1#1
  let main_v9 : IVec S_ 1 := (fun x v => Host.reduce IntOp.andi x v reducesTo_S1600000_S_d0 h_S_) main_v8 main_c_4
  let main_v10 : IVec S_ 1 := andi main_v6 main_v9
  let main_c_5 : IVec S_ 32 := constantI S_ 32 64#32
  let main_v11 : IVec S1600000 32 := broadcastInDim S1600000 ![] bcast_S_S1600000 main_c_5
  let main_v12 : IVec S1600000 1 := cmpi .slt main_arg2 main_v11
  let main_c_6 : IVec S_ 1 := constantI S_ 1 1#1
  let main_v13 : IVec S_ 1 := (fun x v => Host.reduce IntOp.andi x v reducesTo_S1600000_S_d0 h_S_) main_v12 main_c_6
  let main_v14 : IVec S_ 1 := andi main_v10 main_v13
  let main_c_7 : IVec S_ 32 := constantI S_ 32 0#32
  fn_part1 (F := F) main_arg3 main_arg4 main_v14 main_c_7
-- ==== Kernel.lean ====
abbrev S100000 : Shape := ⟨1, ![100000]⟩
abbrev S1600000 : Shape := ⟨1, ![1600000]⟩
abbrev S8 : Shape := ⟨1, ![8]⟩
abbrev S64 : Shape := ⟨1, ![64]⟩
abbrev S_ : Shape := ⟨0, ![]⟩
abbrev S352 : Shape := ⟨1, ![352]⟩
abbrev S100352 : Shape := ⟨1, ![100352]⟩
abbrev S16 : Shape := ⟨1, ![16]⟩
abbrev S32x1024 : Shape := ⟨2, ![32, 1024]⟩
abbrev S1024 : Shape := ⟨1, ![1024]⟩
abbrev S8192 : Shape := ⟨1, ![8192]⟩
abbrev S848 : Shape := ⟨1, ![848]⟩
abbrev S3136 : Shape := ⟨1, ![3136]⟩
abbrev S1x1024 : Shape := ⟨2, ![1, 1024]⟩

abbrev nBuf : Table → Nat
  | .hbm => 19
  | .local .tc .vmem => 2
  | .local .scVector .vmem => 8
  | _ => 0

abbrev bufTy : (tb : Table) → Fin (nBuf tb) → BufTy
  | .hbm, ⟨0, _⟩ => ⟨S100000, .i32⟩
  | .hbm, ⟨1, _⟩ => ⟨S1600000, .f32⟩
  | .hbm, ⟨2, _⟩ => ⟨S1600000, .i32⟩
  | .hbm, ⟨3, _⟩ => ⟨S100000, .i32⟩
  | .hbm, ⟨4, _⟩ => ⟨S1600000, .i32⟩
  | .hbm, ⟨5, _⟩ => ⟨S8, .f32⟩
  | .hbm, ⟨6, _⟩ => ⟨S64, .f32⟩
  | .hbm, ⟨7, _⟩ => ⟨S_, .i32⟩
  | .hbm, ⟨8, _⟩ => ⟨S352, .i32⟩
  | .hbm, ⟨9, _⟩ => ⟨S100352, .i32⟩
  | .hbm, ⟨10, _⟩ => ⟨S_, .i32⟩
  | .hbm, ⟨11, _⟩ => ⟨S352, .i32⟩
  | .hbm, ⟨12, _⟩ => ⟨S100352, .i32⟩
  | .hbm, ⟨13, _⟩ => ⟨S_, .f32⟩
  | .hbm, ⟨14, _⟩ => ⟨S8, .f32⟩
  | .hbm, ⟨15, _⟩ => ⟨S16, .f32⟩
  | .hbm, ⟨16, _⟩ => ⟨S32x1024, .f32⟩
  | .hbm, ⟨17, _⟩ => ⟨S1x1024, .f32⟩
  | .hbm, ⟨18, _⟩ => ⟨S1024, .f32⟩
  | .local .tc .vmem, ⟨0, _⟩ => ⟨S32x1024, .f32⟩
  | .local .tc .vmem, ⟨1, _⟩ => ⟨S1x1024, .f32⟩
  | .local .scVector .vmem, ⟨0, _⟩ => ⟨S64, .f32⟩
  | .local .scVector .vmem, ⟨1, _⟩ => ⟨S16, .f32⟩
  | .local .scVector .vmem, ⟨2, _⟩ => ⟨S1024, .f32⟩
  | .local .scVector .vmem, ⟨3, _⟩ => ⟨S8192, .f32⟩
  | .local .scVector .vmem, ⟨4, _⟩ => ⟨S8192, .i32⟩
  | .local .scVector .vmem, ⟨5, _⟩ => ⟨S8192, .i32⟩
  | .local .scVector .vmem, ⟨6, _⟩ => ⟨S8192, .i32⟩
  | .local .scVector .vmem, ⟨7, _⟩ => ⟨S8192, .i32⟩
  | _, _ => ⟨S100000, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_arg1_scv : Ref sig .scVector := ⟨.hbm, 1, rfl⟩
abbrev main_arg2_scv : Ref sig .scVector := ⟨.hbm, 2, rfl⟩
abbrev main_arg4_scv : Ref sig .scVector := ⟨.hbm, 4, rfl⟩
abbrev main_v1_scv : Ref sig .scVector := ⟨.hbm, 9, rfl⟩
abbrev main_v3_scv : Ref sig .scVector := ⟨.hbm, 12, rfl⟩
abbrev main_arg6_scv : Ref sig .scVector := ⟨.hbm, 6, rfl⟩
abbrev main_v5_scv : Ref sig .scVector := ⟨.hbm, 15, rfl⟩
abbrev main_v6_scv : Ref sig .scVector := ⟨.hbm, 16, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 26
abbrev cc1_sem1_0 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg18 : BitVec 32 := Scf.iv c0_i32_0 c1_i32 k0_t1
  let c16_i32 : BitVec 32 := 16#32
  let v21 : BitVec 32 := Scalar.muli arg18 c16_i32
  let v22 : Index := Scalar.indexCast v21
  ![v22.toNat]
def k0_off2 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v3 : BitVec 32 := Scalar.muli v1 c50000_i32
  let v4 : BitVec 32 := Scalar.addi v3 c0_i32_2
  ![v4.toNat]
@[reducible] def k0_t2_loop : Scf.Loop 32 :=
  let c0_i32_4 : BitVec 32 := 0#32
  let c512_i32 : BitVec 32 := 512#32
  let v5 : BitVec 32 := Scalar.addi c0_i32_4 c512_i32
  let c1_i32_5 : BitVec 32 := 1#32
  ⟨c0_i32_4, v5, c1_i32_5⟩
def k0_off3 (k0_t2 : Fin k0_t2_loop.trips) : Fin 1 → Nat :=
  let c0_i32_4 : BitVec 32 := 0#32
  let c1_i32_5 : BitVec 32 := 1#32
  let arg18 : BitVec 32 := Scf.iv c0_i32_4 c1_i32_5 k0_t2
  let c16_i32 : BitVec 32 := 16#32
  let v20 : BitVec 32 := Scalar.muli arg18 c16_i32
  let v21 : Index := Scalar.indexCast v20
  ![v21.toNat]

def k0_chk1 (v25 : IVec S16 32) : Prop :=
  (∀ a x, ((![v25] : Fin 1 → IVec S16 32) a x).toNat < S64.size a)
theorem k0_idx1_inb : ∀ (v25 : IVec S16 32) (k0_hw1 : k0_chk1 v25), ∀ a x, ((![v25] : Fin 1 → IVec S16 32) a x).toNat < S64.size a := fun v25 k0_hw1 => k0_hw1

def k0_chk2 (v28 : IVec S16 32) : Prop :=
  (∀ a x, ((![v28] : Fin 1 → IVec S16 32) a x).toNat < S1024.size a)
theorem k0_idx2_inb : ∀ (v28 : IVec S16 32) (k0_hw2 : k0_chk2 v28), ∀ a x, ((![v28] : Fin 1 → IVec S16 32) a x).toNat < S1024.size a := fun v28 k0_hw2 => k0_hw2
@[reducible] def k0_t3_loop : Scf.Loop 32 :=
  let c0_i32_8 : BitVec 32 := 0#32
  let c512_i32_9 : BitVec 32 := 512#32
  let v7 : BitVec 32 := Scalar.addi c0_i32_8 c512_i32_9
  let c1_i32_10 : BitVec 32 := 1#32
  ⟨c0_i32_8, v7, c1_i32_10⟩
def k0_off4 (k0_t3 : Fin k0_t3_loop.trips) : Fin 1 → Nat :=
  let c0_i32_8 : BitVec 32 := 0#32
  let c1_i32_10 : BitVec 32 := 1#32
  let arg18 : BitVec 32 := Scf.iv c0_i32_8 c1_i32_10 k0_t3
  let c16_i32 : BitVec 32 := 16#32
  let v20 : BitVec 32 := Scalar.muli arg18 c16_i32
  let v21 : Index := Scalar.indexCast v20
  ![v21.toNat]

def k0_chk3 (v25 : IVec S16 32) : Prop :=
  (∀ a x, ((![v25] : Fin 1 → IVec S16 32) a x).toNat < S64.size a)
theorem k0_idx3_inb : ∀ (v25 : IVec S16 32) (k0_hw3 : k0_chk3 v25), ∀ a x, ((![v25] : Fin 1 → IVec S16 32) a x).toNat < S64.size a := fun v25 k0_hw3 => k0_hw3

def k0_chk4 (v28 : IVec S16 32) : Prop :=
  (∀ a x, ((![v28] : Fin 1 → IVec S16 32) a x).toNat < S1024.size a)
theorem k0_idx4_inb : ∀ (v28 : IVec S16 32) (k0_hw4 : k0_chk4 v28), ∀ a x, ((![v28] : Fin 1 → IVec S16 32) a x).toNat < S1024.size a := fun v28 k0_hw4 => k0_hw4
@[reducible] def k0_t4_loop : Scf.Loop 32 :=
  let c0_i32_13 : BitVec 32 := 0#32
  let c512_i32_14 : BitVec 32 := 512#32
  let v9 : BitVec 32 := Scalar.addi c0_i32_13 c512_i32_14
  let c1_i32_15 : BitVec 32 := 1#32
  ⟨c0_i32_13, v9, c1_i32_15⟩
def k0_off5 (k0_t4 : Fin k0_t4_loop.trips) : Fin 1 → Nat :=
  let c0_i32_13 : BitVec 32 := 0#32
  let c1_i32_15 : BitVec 32 := 1#32
  let arg18 : BitVec 32 := Scf.iv c0_i32_13 c1_i32_15 k0_t4
  let c16_i32 : BitVec 32 := 16#32
  let v20 : BitVec 32 := Scalar.muli arg18 c16_i32
  let v21 : Index := Scalar.indexCast v20
  ![v21.toNat]

def k0_chk5 (v25 : IVec S16 32) : Prop :=
  (∀ a x, ((![v25] : Fin 1 → IVec S16 32) a x).toNat < S64.size a)
theorem k0_idx5_inb : ∀ (v25 : IVec S16 32) (k0_hw5 : k0_chk5 v25), ∀ a x, ((![v25] : Fin 1 → IVec S16 32) a x).toNat < S64.size a := fun v25 k0_hw5 => k0_hw5

def k0_chk6 (v28 : IVec S16 32) : Prop :=
  (∀ a x, ((![v28] : Fin 1 → IVec S16 32) a x).toNat < S1024.size a)
theorem k0_idx6_inb : ∀ (v28 : IVec S16 32) (k0_hw6 : k0_chk6 v28), ∀ a x, ((![v28] : Fin 1 → IVec S16 32) a x).toNat < S1024.size a := fun v28 k0_hw6 => k0_hw6
@[reducible] def k0_t5_loop : Scf.Loop 32 :=
  let c0_i32_18 : BitVec 32 := 0#32
  let c512_i32_19 : BitVec 32 := 512#32
  let v11 : BitVec 32 := Scalar.addi c0_i32_18 c512_i32_19
  let c1_i32_20 : BitVec 32 := 1#32
  ⟨c0_i32_18, v11, c1_i32_20⟩
def k0_off6 (k0_t5 : Fin k0_t5_loop.trips) : Fin 1 → Nat :=
  let c0_i32_18 : BitVec 32 := 0#32
  let c1_i32_20 : BitVec 32 := 1#32
  let arg18 : BitVec 32 := Scf.iv c0_i32_18 c1_i32_20 k0_t5
  let c16_i32 : BitVec 32 := 16#32
  let v20 : BitVec 32 := Scalar.muli arg18 c16_i32
  let v21 : Index := Scalar.indexCast v20
  ![v21.toNat]

def k0_chk7 (v25 : IVec S16 32) : Prop :=
  (∀ a x, ((![v25] : Fin 1 → IVec S16 32) a x).toNat < S64.size a)
theorem k0_idx7_inb : ∀ (v25 : IVec S16 32) (k0_hw7 : k0_chk7 v25), ∀ a x, ((![v25] : Fin 1 → IVec S16 32) a x).toNat < S64.size a := fun v25 k0_hw7 => k0_hw7

def k0_chk8 (v28 : IVec S16 32) : Prop :=
  (∀ a x, ((![v28] : Fin 1 → IVec S16 32) a x).toNat < S1024.size a)
theorem k0_idx8_inb : ∀ (v28 : IVec S16 32) (k0_hw8 : k0_chk8 v28), ∀ a x, ((![v28] : Fin 1 → IVec S16 32) a x).toNat < S1024.size a := fun v28 k0_hw8 => k0_hw8
@[reducible] def k0_t6_loop : Scf.Loop 32 :=
  let c0_i32_23 : BitVec 32 := 0#32
  let c512_i32_24 : BitVec 32 := 512#32
  let v13 : BitVec 32 := Scalar.addi c0_i32_23 c512_i32_24
  let c1_i32_25 : BitVec 32 := 1#32
  ⟨c0_i32_23, v13, c1_i32_25⟩
def k0_off7 (k0_t6 : Fin k0_t6_loop.trips) : Fin 1 → Nat :=
  let c0_i32_23 : BitVec 32 := 0#32
  let c1_i32_25 : BitVec 32 := 1#32
  let arg18 : BitVec 32 := Scf.iv c0_i32_23 c1_i32_25 k0_t6
  let c16_i32 : BitVec 32 := 16#32
  let v20 : BitVec 32 := Scalar.muli arg18 c16_i32
  let v21 : Index := Scalar.indexCast v20
  ![v21.toNat]

def k0_chk9 (v25 : IVec S16 32) : Prop :=
  (∀ a x, ((![v25] : Fin 1 → IVec S16 32) a x).toNat < S64.size a)
theorem k0_idx9_inb : ∀ (v25 : IVec S16 32) (k0_hw9 : k0_chk9 v25), ∀ a x, ((![v25] : Fin 1 → IVec S16 32) a x).toNat < S64.size a := fun v25 k0_hw9 => k0_hw9

def k0_chk10 (v28 : IVec S16 32) : Prop :=
  (∀ a x, ((![v28] : Fin 1 → IVec S16 32) a x).toNat < S1024.size a)
theorem k0_idx10_inb : ∀ (v28 : IVec S16 32) (k0_hw10 : k0_chk10 v28), ∀ a x, ((![v28] : Fin 1 → IVec S16 32) a x).toNat < S1024.size a := fun v28 k0_hw10 => k0_hw10
@[reducible] def k0_t7_loop : Scf.Loop 32 :=
  let c0_i32_28 : BitVec 32 := 0#32
  let c512_i32_29 : BitVec 32 := 512#32
  let v15 : BitVec 32 := Scalar.addi c0_i32_28 c512_i32_29
  let c1_i32_30 : BitVec 32 := 1#32
  ⟨c0_i32_28, v15, c1_i32_30⟩
def k0_off8 (k0_t7 : Fin k0_t7_loop.trips) : Fin 1 → Nat :=
  let c0_i32_28 : BitVec 32 := 0#32
  let c1_i32_30 : BitVec 32 := 1#32
  let arg18 : BitVec 32 := Scf.iv c0_i32_28 c1_i32_30 k0_t7
  let c16_i32 : BitVec 32 := 16#32
  let v20 : BitVec 32 := Scalar.muli arg18 c16_i32
  let v21 : Index := Scalar.indexCast v20
  ![v21.toNat]

def k0_chk11 (v25 : IVec S16 32) : Prop :=
  (∀ a x, ((![v25] : Fin 1 → IVec S16 32) a x).toNat < S64.size a)
theorem k0_idx11_inb : ∀ (v25 : IVec S16 32) (k0_hw11 : k0_chk11 v25), ∀ a x, ((![v25] : Fin 1 → IVec S16 32) a x).toNat < S64.size a := fun v25 k0_hw11 => k0_hw11

def k0_chk12 (v28 : IVec S16 32) : Prop :=
  (∀ a x, ((![v28] : Fin 1 → IVec S16 32) a x).toNat < S1024.size a)
theorem k0_idx12_inb : ∀ (v28 : IVec S16 32) (k0_hw12 : k0_chk12 v28), ∀ a x, ((![v28] : Fin 1 → IVec S16 32) a x).toNat < S1024.size a := fun v28 k0_hw12 => k0_hw12
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v3 : BitVec 32 := Scalar.muli v1 c50000_i32
  let c49152_i32 : BitVec 32 := 49152#32
  let v16 : BitVec 32 := Scalar.addi v3 c49152_i32
  ![v16.toNat]
@[reducible] def k0_t8_loop : Scf.Loop 32 :=
  let c0_i32_33 : BitVec 32 := 0#32
  let c53_i32 : BitVec 32 := 53#32
  let v17 : BitVec 32 := Scalar.addi c0_i32_33 c53_i32
  let c1_i32_34 : BitVec 32 := 1#32
  ⟨c0_i32_33, v17, c1_i32_34⟩
def k0_off10 (k0_t8 : Fin k0_t8_loop.trips) : Fin 1 → Nat :=
  let c0_i32_33 : BitVec 32 := 0#32
  let c1_i32_34 : BitVec 32 := 1#32
  let arg18 : BitVec 32 := Scf.iv c0_i32_33 c1_i32_34 k0_t8
  let c16_i32 : BitVec 32 := 16#32
  let v20 : BitVec 32 := Scalar.muli arg18 c16_i32
  let v21 : Index := Scalar.indexCast v20
  ![v21.toNat]

def k0_chk13 (v25 : IVec S16 32) : Prop :=
  (∀ a x, ((![v25] : Fin 1 → IVec S16 32) a x).toNat < S64.size a)
theorem k0_idx13_inb : ∀ (v25 : IVec S16 32) (k0_hw13 : k0_chk13 v25), ∀ a x, ((![v25] : Fin 1 → IVec S16 32) a x).toNat < S64.size a := fun v25 k0_hw13 => k0_hw13

def k0_chk14 (v28 : IVec S16 32) : Prop :=
  (∀ a x, ((![v28] : Fin 1 → IVec S16 32) a x).toNat < S1024.size a)
theorem k0_idx14_inb : ∀ (v28 : IVec S16 32) (k0_hw14 : k0_chk14 v28), ∀ a x, ((![v28] : Fin 1 → IVec S16 32) a x).toNat < S1024.size a := fun v28 k0_hw14 => k0_hw14
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v18 : BitVec 32 := Scalar.muli v1 c3136_i32
  ![v18.toNat]
@[reducible] def k0_t9_loop : Scf.Loop 32 :=
  let c0_i32_37 : BitVec 32 := 0#32
  let c196_i32 : BitVec 32 := 196#32
  let v19 : BitVec 32 := Scalar.addi c0_i32_37 c196_i32
  let c1_i32_38 : BitVec 32 := 1#32
  ⟨c0_i32_37, v19, c1_i32_38⟩
def k0_off12 (k0_t9 : Fin k0_t9_loop.trips) : Fin 1 → Nat :=
  let c0_i32_37 : BitVec 32 := 0#32
  let c1_i32_38 : BitVec 32 := 1#32
  let arg18 : BitVec 32 := Scf.iv c0_i32_37 c1_i32_38 k0_t9
  let c16_i32 : BitVec 32 := 16#32
  let v20 : BitVec 32 := Scalar.muli arg18 c16_i32
  let v21 : Index := Scalar.indexCast v20
  ![v21.toNat]

def k0_chk15 (v22 : IVec S16 32) : Prop :=
  (∀ a x, ((![v22] : Fin 1 → IVec S16 32) a x).toNat < S16.size a)
theorem k0_idx15_inb : ∀ (v22 : IVec S16 32) (k0_hw15 : k0_chk15 v22), ∀ a x, ((![v22] : Fin 1 → IVec S16 32) a x).toNat < S16.size a := fun v22 k0_hw15 => k0_hw15

def k0_chk16 (v25 : IVec S16 32) : Prop :=
  (∀ a x, ((![v25] : Fin 1 → IVec S16 32) a x).toNat < S1024.size a)
theorem k0_idx16_inb : ∀ (v25 : IVec S16 32) (k0_hw16 : k0_chk16 v25), ∀ a x, ((![v25] : Fin 1 → IVec S16 32) a x).toNat < S1024.size a := fun v25 k0_hw16 => k0_hw16
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r25 : BitVec 32 := 0#32
  ![v1.toNat, 0]
abbrev grid1 : Pipeline.Grid := .none

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S1600000 : Shape := ⟨1, ![1600000]⟩
abbrev S8 : Shape := ⟨1, ![8]⟩
abbrev S64 : Shape := ⟨1, ![64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1024 : Shape := ⟨1, ![1024]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1600000, .f32⟩
  | .hbm, ⟨2, _⟩ => ⟨S1600000, .i32⟩
  | .hbm, ⟨3, _⟩ => ⟨S100000, .i32⟩
  | .hbm, ⟨4, _⟩ => ⟨S1600000, .i32⟩
  | .hbm, ⟨5, _⟩ => ⟨S8, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000, .f32⟩
  | .hbm, ⟨26, _⟩ => ⟨S_, .f32⟩
  | .hbm, ⟨27, _⟩ => ⟨S1600000, .f32⟩
  | .hbm, ⟨28, _⟩ => ⟨S1600000, .f32⟩
  | .hbm, ⟨29, _⟩ => ⟨S1600000, .f32⟩
  | .hbm, ⟨30, _⟩ => ⟨S_, .f32⟩
  | .hbm, ⟨31, _⟩ => ⟨S1024, .f32⟩
  | .hbm, ⟨32, _⟩ => ⟨S1600000x1, .i32⟩
  | .hbm, ⟨33, _⟩ => ⟨S1024, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S1, .i32⟩
  | .hbm, ⟨43, _⟩ => ⟨S_, .i32⟩
  | .hbm, ⟨44, _⟩ => ⟨S100000x1, .i32⟩
  | .hbm, ⟨45, _⟩ => ⟨S100000x1, .i1⟩
  | .hbm, ⟨46, _⟩ => ⟨S1x1, .i32⟩
  | .hbm, ⟨47, _⟩ => ⟨S100000x1, .i32⟩
  | .hbm, ⟨48, _⟩ => ⟨S100000x1, .i1⟩
  | .hbm, ⟨49, _⟩ => ⟨S100000x1, .i1⟩
  | .hbm, ⟨50, _⟩ => ⟨S_, .i1⟩
  | .hbm, ⟨51, _⟩ => ⟨S100000, .i1⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S_, .f32⟩
  | .hbm, ⟨57, _⟩ => ⟨S1024, .f32⟩
  | .hbm, ⟨58, _⟩ => ⟨S100000x1, .i32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v5 : Ref sig .tc := ⟨.hbm, 55, rfl⟩
abbrev main_cst_0 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_1 : Ref sig .tc := ⟨.hbm, 61, rfl⟩
abbrev main_v10 : Ref sig .tc := ⟨.hbm, 62, rfl⟩
abbrev main_v11 : Ref sig .tc := ⟨.hbm, 63, rfl⟩

abbrev nD : Nat := 1
abbrev τ : Topo := Topo.v7x

variable {F : FTy → Type} [FloatOps F]
-- ==== Proof.ScVals.lean ====
/-
  What one tile of the SparseCore kernel computes, as pure functions of the arrays it reads, over any float values `F`:
  the accumulator after each group of sixteen gathered and scattered terms (`runC`, `runA`), the tile's finished row
  (`tileAcc`) and the 32×1024 array of rows (`rows`).
-/
module

public import proofs.«01_k».proof.Defs
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic

/-- The arrays the tiles read, with the ranges of their index words: coefficients, basis function indices and segments
    of the coefficients; padded atom types and atom segments; the two tables. -/
structure Inputs (F : FTy → Type) where
  C : S1600000.Idx → F .f32
  B : S1600000.Idx → BitVec 32
  S : S1600000.Idx → BitVec 32
  AI : S100352.Idx → BitVec 32
  AB : S100352.Idx → BitVec 32
  G : S64.Idx → F .f32
  T : S16.Idx → F .f32
  hB : ∀ j, (B j).toNat < 64
  hS : ∀ j, (S j).toNat < 1024
  hAI : ∀ j, (AI j).toNat < 16
  hAB : ∀ j, (AB j).toNat < 1024

/-- Position `p` of a long array, wrapped around at its end (no position used below reaches the end). -/
abbrev posC (p : ℕ) : S1600000.Idx := fun | 0 => ⟨p % 1600000, Nat.mod_lt p (by decide : 0 < 1600000)⟩
abbrev posA (p : ℕ) : S100352.Idx := fun | 0 => ⟨p % 100352, Nat.mod_lt p (by decide : 0 < 100352)⟩

/-- Sixteen consecutive elements from position `p`. -/
def lanesC {α : Type} (A : S1600000.Idx → α) (p : ℕ) : S16.Idx → α := fun x => A (posC (p + (x 0).val))
def lanesA {α : Type} (A : S100352.Idx → α) (p : ℕ) : S16.Idx → α := fun x => A (posA (p + (x 0).val))

variable {F : FTy → Type} [FloatOps F] (X : Inputs F)

theorem chkB (p : ℕ) : k0_chk1 (lanesC X.B p) := by
  intro a x; obtain rfl : a = 0 := Subsingleton.elim _ _; exact X.hB _
theorem chkS (p : ℕ) : k0_chk2 (lanesC X.S p) := by
  intro a x; obtain rfl : a = 0 := Subsingleton.elim _ _; exact X.hS _
theorem chkAI (p : ℕ) : k0_chk15 (lanesA X.AI p) := by
  intro a x; obtain rfl : a = 0 := Subsingleton.elim _ _; exact X.hAI _
theorem chkAB (p : ℕ) : k0_chk16 (lanesA X.AB p) := by
  intro a x; obtain rfl : a = 0 := Subsingleton.elim _ _; exact X.hAB _

/-- One trip over sixteen coefficients at position `p`: each lane's table entry times its coefficient is added at the
    lane's segment. -/
def stepC (p : ℕ) (a : Vec F S1024 .f32) : Vec F S1024 .f32 :=
  storeIdx a ![lanesC X.S p]
    (mulf (loadIdx (s := S64) (e := .f32) X.G ![lanesC X.B p] (chkB X p) : Vec F S16 .f32) (lanesC X.C p)) (fun _ => 1#1) true (chkS X p)

/-- One trip over sixteen atoms at position `p`: each lane's table entry is added at the lane's segment. -/
def stepA (p : ℕ) (a : Vec F S1024 .f32) : Vec F S1024 .f32 :=
  storeIdx a ![lanesA X.AB p]
    (loadIdx (s := S16) (e := .f32) X.T ![lanesA X.AI p] (chkAI X p) : Vec F S16 .f32) (fun _ => 1#1) true (chkAB X p)

/-- `k` trips from position `p`. -/
def runC (p : ℕ) : ℕ → Vec F S1024 .f32 → Vec F S1024 .f32
  | 0, a => a
  | k + 1, a => stepC X (p + 16 * k) (runC p k a)
def runA (p : ℕ) : ℕ → Vec F S1024 .f32 → Vec F S1024 .f32
  | 0, a => a
  | k + 1, a => stepA X (p + 16 * k) (runA p k a)

theorem runC_add (p n k : ℕ) (a : Vec F S1024 .f32) : runC X (p + 16 * n) k (runC X p n a) = runC X p (n + k) a := by
  induction k with
  | zero => rfl
  | succ k ih => rw [runC, ih, ← Nat.add_assoc n k 1, runC, Nat.add_assoc p, ← Nat.mul_add]

/-- The zeroed accumulator. -/
def zeros : Vec F S1024 .f32 := broadcast S1024 (Scalar.ofBits .f32 0x00000000#32 : F .f32)

/-- The row tile number `w` leaves: its 50000 coefficients, then its 3136 (padded) atoms. -/
def tileAcc (w : ℕ) : Vec F S1024 .f32 := runA X (3136 * w) 196 (runC X (50000 * w) 3125 zeros)

/-- The array of rows. -/
def rows : Vec F S32x1024 .f32 := fun j => tileAcc X (j 0).val (fun | 0 => j 1)

end Cert.Proof.Sc

end
-- ==== Proof.ScSetup.lean ====
/-
  The launch's vocabulary for the kernel: the SparseCore configuration as the launch theorem sees it, the resource
  algebra (the handshakes' rounds, the TensorCore region's rounds, the transfers' counters), a tile's thread.
-/
module

public import proofs.«01_k».proof.Proof.ScVals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- The handshakes' rounds. -/
abbrev EH : Emb UH (MT nD τ sig (HIx 1) (Elt F) ℕ UU ℕ) := embL
/-- The TensorCore region's rounds. -/
abbrev EP : Emb UP (MT nD τ sig (HIx 1) (Elt F) ℕ UU ℕ) := (Emb.inl : Emb UP (UP × Counters)).trans embR

local notation "𝕄" => MT nD τ sig (HIx 1) (Elt F) ℕ UU ℕ

instance EP_landsIn : (EP : Emb UP 𝕄).LandsIn (upEmb : UEmb _ 𝕄) := by unfold EP; infer_instance

/-- The tile at grid point `L`: its SparseCore, its subcore, its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's number, which is the row it leaves. -/
abbrev wid (L : grid0.Coords) : ℕ := 2 * (L 1).val + (L 0).val

end Cert.Proof.Sc

end
-- ==== Proof.ScTrip.lean ====
/-
  One trip of each of the kernel's counted loops, and each loop as a whole, on one tile: the accumulator goes from
  what it was to the pure step's result.
-/
module

public import proofs.«01_k».proof.Proof.ScSetup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
abbrev gW : Memref Cert.KernelIdeal.sig Kind.scVector Space.vmem Cert.KernelIdeal.S64 EltTy.f32 := Memref.whole Cert.KernelIdeal.cc0_scratch0
abbrev tW : Memref Cert.KernelIdeal.sig Kind.scVector Space.vmem Cert.KernelIdeal.S16 EltTy.f32 := Memref.whole Cert.KernelIdeal.cc0_scratch1
abbrev accW : Memref Cert.KernelIdeal.sig Kind.scVector Space.vmem Cert.KernelIdeal.S1024 EltTy.f32 := Memref.whole Cert.KernelIdeal.cc0_scratch2
abbrev cW : Memref Cert.KernelIdeal.sig Kind.scVector Space.vmem Cert.KernelIdeal.S8192 EltTy.f32 := Memref.whole Cert.KernelIdeal.cc0_scratch3
abbrev bW : Memref Cert.KernelIdeal.sig Kind.scVector Space.vmem Cert.KernelIdeal.S8192 EltTy.i32 := Memref.whole Cert.KernelIdeal.cc0_scratch4
abbrev sW : Memref Cert.KernelIdeal.sig Kind.scVector Space.vmem Cert.KernelIdeal.S8192 EltTy.i32 := Memref.whole Cert.KernelIdeal.cc0_scratch5
abbrev aiW : Memref Cert.KernelIdeal.sig Kind.scVector Space.vmem Cert.KernelIdeal.S8192 EltTy.i32 := Memref.whole Cert.KernelIdeal.cc0_scratch6
abbrev abW : Memref Cert.KernelIdeal.sig Kind.scVector Space.vmem Cert.KernelIdeal.S8192 EltTy.i32 := Memref.whole Cert.KernelIdeal.cc0_scratch7

variable (d : Dev nD) (L : grid0.Coords) (X : Inputs F)

/-- A staging buffer's first `n` elements are the array's from position `p`. -/
def HoldsC {α : Type} (A : S1600000.Idx → α) (p n : ℕ) (f : S8192.Idx → α) : Prop := ∀ j : S8192.Idx, (j 0).val < n → f j = A (posC (p + (j 0).val))
def HoldsA {α : Type} (A : S100352.Idx → α) (p n : ℕ) (f : S8192.Idx → α) : Prop := ∀ j : S8192.Idx, (j 0).val < n → f j = A (posA (p + (j 0).val))

theorem idx_unit {off : Fin 1 → ℕ} (inb : ∀ a, off a + S16.size a ≤ S8192.size a) (x : S16.Idx) :
    (((Rect.unit (s := S8192) off S16.size inb).toLoadRect.idx x : S8192.Idx) 0).val = off 0 + (x 0).val := by
  rw [LoadRect.idx_apply]
  show off 0 + 1 * (x 0).val = _
  rw [Nat.one_mul]

theorem load_lanesC {α : Type} {A : S1600000.Idx → α} {p n k : ℕ} {f : S8192.Idx → α} (hf : HoldsC A p n f) (hk : 16 * k + 16 ≤ n)
    {off : Fin 1 → ℕ} (hoff : off 0 = 16 * k) (inb : ∀ a, off a + S16.size a ≤ S8192.size a) :
    (fun x : S16.Idx => f ((Rect.unit (s := S8192) off S16.size inb).toLoadRect.idx x)) = lanesC A (p + 16 * k) := by
  funext x
  have hx : (x 0).val < 16 := (x 0).isLt
  rw [hf _ (by rw [idx_unit, hoff]; omega), lanesC, idx_unit, hoff, Nat.add_assoc]

theorem load_lanesA {α : Type} {A : S100352.Idx → α} {p n k : ℕ} {f : S8192.Idx → α} (hf : HoldsA A p n f) (hk : 16 * k + 16 ≤ n)
    {off : Fin 1 → ℕ} (hoff : off 0 = 16 * k) (inb : ∀ a, off a + S16.size a ≤ S8192.size a) :
    (fun x : S16.Idx => f ((Rect.unit (s := S8192) off S16.size inb).toLoadRect.idx x)) = lanesA A (p + 16 * k) := by
  funext x
  have hx : (x 0).val < 16 := (x 0).isLt
  rw [hf _ (by rw [idx_unit, hoff]; omega), lanesA, idx_unit, hoff, Nat.add_assoc]

/-- The region of a coefficient loop's trip, at the trip's offset. -/
def tripC (off : Fin 1 → ℕ) (inb : ∀ a, off a + S16.size a ≤ S8192.size a) :
    Prog (TpuEff nD τ sig (Elt F) Λ₀ (.scVector ((L 0).castLE hcore0) ((L 1).castLE hsub0))) Unit := do
  let c : Vec F S16 .f32 ← Prog.lift (.load cW (Rect.unit (s := S8192) off S16.size inb).toLoadRect (View.loadsAt_vmem h_S16))
  let b : Vec F S16 .i32 ← Prog.lift (.load bW (Rect.unit (s := S8192) off S16.size inb).toLoadRect (View.loadsAt_vmem h_S16))
  have hb : k0_chk1 b := (← Prog.lift (TpuEff.assume (k0_chk1 b) (k0_chk1.dec b))).down
  let s : Vec F S16 .i32 ← Prog.lift (.load sW (Rect.unit (s := S8192) off S16.size inb).toLoadRect (View.loadsAt_vmem h_S16))
  have hs : k0_chk2 s := (← Prog.lift (TpuEff.assume (k0_chk2 s) (k0_chk2.dec s))).down
  let g : Vec F S16 .f32 ← SparseCore.vectorLoadIdx gW ![b] (k0_idx1_inb b hb) (View.loads_vmem h_S64)
  SparseCore.vectorStoreIdx accW ![s] (k0_pay2 c g) (fun _ => 1#1) true (k0_idx2_inb s hs) (View.stores_vmem_bits_univ h_S1024 rfl)
  pure ⟨⟩

/-- What a coefficient loop touches: the table, the accumulator, the three staging buffers. -/
abbrev heldC (g : Vec F S64 .f32) (a : Vec F S1024 .f32) (fc : Vec F S8192 .f32) (fb fs : Vec F S8192 .i32) : sProp 𝕄 :=
  iprop(((gW).view.loc (thr d L) ↦{fullShare} g) ∗ ((accW).view.loc (thr d L) ↦{fullShare} a) ∗ ((cW).view.loc (thr d L) ↦{fullShare} fc)
    ∗ ((bW).view.loc (thr d L) ↦{fullShare} fb) ∗ ((sW).view.loc (thr d L) ↦{fullShare} fs))

theorem pts_accWhole (f : Vec F S1024 .f32) :
    (((accW).access (.whole S1024)).loc (thr d L) ↦[((accW).access (.whole S1024)).set]{fullShare} f : sProp 𝕄)
      = (accW).view.loc (thr d L) ↦{fullShare} f := by
  rw [show ((accW).access (.whole S1024)).set = Finset.univ from Memref.set_access_whole (cc0_scratch2 : Ref sig .scVector)]

theorem tripC_wp {p n k : ℕ} {a : Vec F S1024 .f32} {fc : Vec F S8192 .f32} {fb fs : Vec F S8192 .i32}
    (hc : HoldsC X.C p n fc) (hb : HoldsC X.B p n fb) (hs : HoldsC X.S p n fs) (hk : 16 * k + 16 ≤ n)
    {off : Fin 1 → ℕ} (hoff : off 0 = 16 * k) (inb : ∀ a, off a + S16.size a ≤ S8192.size a) {Q : Unit → sProp 𝕄} :
    iprop(heldC d L X.G a fc fb fs ∗ (heldC d L X.G (stepC X (p + 16 * k) a) fc fb fs -∗ Q ⟨⟩))
      ⊢ wp frame (wpE (defs₀ (F := F)) 𝒱₀ (thr d L) none) Set.univ (tripC L off inb) Q := by
  have ec : (cW).view.readAt (Elt F) (Rect.unit (s := S8192) off S16.size inb).toLoadRect fc = lanesC X.C (p + 16 * k) := load_lanesC hc hk hoff inb
  have eb : (bW).view.readAt (Elt F) (Rect.unit (s := S8192) off S16.size inb).toLoadRect fb = lanesC X.B (p + 16 * k) := load_lanesC hb hk hoff inb
  have es : (sW).view.readAt (Elt F) (Rect.unit (s := S8192) off S16.size inb).toLoadRect fs = lanesC X.S (p + 16 * k) := load_lanesC hs hk hoff inb
  have rG : ((gW).access (.whole S64)).read (Elt F) X.G = X.G := Memref.read_access_whole (Val := Elt F) (cc0_scratch0 : Ref sig .scVector) X.G
  have rA : ((accW).access (.whole S1024)).read (Elt F) a = a := Memref.read_access_whole (Val := Elt F) (cc0_scratch2 : Ref sig .scVector) a
  have wA : ∀ g : Vec F S1024 .f32, ((accW).access (.whole S1024)).write (Elt F) a g Finset.univ = g :=
    Memref.write_access_whole_univ (Val := Elt F) (cc0_scratch2 : Ref sig .scVector) a
  unfold tripC
  simp only [Prog.lift, Prog.bind_op, Prog.bind_ret, Prog.pure_eq_ret]
  iintro ⟨⟨Hg, Ha, Hc, Hb, Hs⟩, HQ⟩
  iapply (wp_load 𝒱₀ (thr d L) none Set.univ (m := cW) (S := Finset.univ) (Finset.subset_univ _)) $$ Hc; iintro Hc
  iapply (wp_load 𝒱₀ (thr d L) none Set.univ (m := bW) (S := Finset.univ) (Finset.subset_univ _)) $$ Hb; iintro Hb
  rw [ec, eb, wp_assume_of _ _ _ _ (chkB X _)]
  iapply (wp_load 𝒱₀ (thr d L) none Set.univ (m := sW) (S := Finset.univ) (Finset.subset_univ _)) $$ Hs; iintro Hs
  rw [es, wp_assume_of _ _ _ _ (chkS X _)]
  iapply (SparseCore.wp_vectorLoadIdx 𝒱₀ (thr d L) none Set.univ (base := gW) (S := Finset.univ) (Finset.subset_univ _)) $$ Hg; iintro Hg
  ihave Ha' := (Entails.of_eq (pts_accWhole (F := F) d L _).symm) $$ Ha
  iapply (SparseCore.wp_vectorStoreIdx 𝒱₀ (thr d L) none Set.univ (base := accW)) $$ Ha'; iintro Ha
  rw [rG, rA, wA]
  ihave Ha := (Entails.of_eq (pts_accWhole (F := F) d L _)) $$ Ha
  rw [wp_ret]; imodintro
  iapply HQ
  isplitl [Hg]; · iexact Hg
  isplitl [Ha]; · iexact Ha
  isplitl [Hc]; · iexact Hc
  isplitl [Hb] <;> iassumption

/-- A coefficient loop: from staging buffers holding the arrays from position `p`, its trips take the accumulator to
    `runC`. -/
theorem loopC_wp {p n : ℕ} {a : Vec F S1024 .f32} {fc : Vec F S8192 .f32} {fb fs : Vec F S8192 .i32}
    (hc : HoldsC X.C p n fc) (hb : HoldsC X.B p n fb) (hs : HoldsC X.S p n fs)
    (l : Scf.Loop 32) (hok : l.OK) (hn : 16 * l.trips ≤ n) {off : Fin l.trips → Fin 1 → ℕ} (hoff : ∀ k, off k 0 = 16 * k.val)
    (inb : ∀ k, ∀ a, off k a + S16.size a ≤ S8192.size a)
    (body : Fin l.trips → Unit → Prog (TpuEff nD τ sig (Elt F) Λ₀ (.scVector ((L 0).castLE hcore0) ((L 1).castLE hsub0))) Unit)
    (hbody : ∀ k u, body k u = tripC L (off k) (inb k))
    {β : Type} {kk : Unit → Prog (TpuEff nD τ sig (Elt F) Λ₀ (.scVector ((L 0).castLE hcore0) ((L 1).castLE hsub0))) β} {Q : β → sProp 𝕄} :
    iprop(heldC d L X.G a fc fb fs ∗ (heldC d L X.G (runC X p l.trips a) fc fb fs -∗ wp frame (wpE (defs₀ (F := F)) 𝒱₀ (thr d L) none) Set.univ (kk ⟨⟩) Q))
      ⊢ wp frame (wpE (defs₀ (F := F)) 𝒱₀ (thr d L) none) Set.univ (Scf.Loop.for l hok ⟨⟩ body >>= kk) Q := by
  iintro ⟨HI, HQ⟩
  sl_for (fun k _ => heldC d L X.G (runC X p k a) fc fb fs) $$ [HI]
  case region =>
    intro k u
    show _ ⊢ wp _ _ _ (body k u) _
    rw [hbody]
    iintro H
    iapply (tripC_wp d L X (a := runC X p k.val a) hc hb hs (k := k.val) (by have : k.val < l.trips := k.isLt; omega) (hoff k) (inb k))
    isplitl [H]; · iexact H
    iintro H; iexact H
  · iexact HI
  iintro %_ HI
  iapply HQ; iexact HI

/-- The region of the atom loop's trip, at the trip's offset. -/
def tripA (off : Fin 1 → ℕ) (inb : ∀ a, off a + S16.size a ≤ S8192.size a) :
    Prog (TpuEff nD τ sig (Elt F) Λ₀ (.scVector ((L 0).castLE hcore0) ((L 1).castLE hsub0))) Unit := do
  let b : Vec F S16 .i32 ← Prog.lift (.load aiW (Rect.unit (s := S8192) off S16.size inb).toLoadRect (View.loadsAt_vmem h_S16))
  have hb : k0_chk15 b := (← Prog.lift (TpuEff.assume (k0_chk15 b) (k0_chk15.dec b))).down
  let s : Vec F S16 .i32 ← Prog.lift (.load abW (Rect.unit (s := S8192) off S16.size inb).toLoadRect (View.loadsAt_vmem h_S16))
  have hs : k0_chk16 s := (← Prog.lift (TpuEff.assume (k0_chk16 s) (k0_chk16.dec s))).down
  let g : Vec F S16 .f32 ← SparseCore.vectorLoadIdx tW ![b] (k0_idx15_inb b hb) (View.loads_vmem h_S16)
  SparseCore.vectorStoreIdx accW ![s] g (fun _ => 1#1) true (k0_idx16_inb s hs) (View.stores_vmem_bits_univ h_S1024 rfl)
  pure ⟨⟩

/-- What the atom loop touches: the table, the accumulator, the two staging buffers. -/
abbrev heldA (t : Vec F S16 .f32) (a : Vec F S1024 .f32) (fb fs : Vec F S8192 .i32) : sProp 𝕄 :=
  iprop(((tW).view.loc (thr d L) ↦{fullShare} t) ∗ ((accW).view.loc (thr d L) ↦{fullShare} a)
    ∗ ((aiW).view.loc (thr d L) ↦{fullShare} fb) ∗ ((abW).view.loc (thr d L) ↦{fullShare} fs))

theorem tripA_wp {p n k : ℕ} {a : Vec F S1024 .f32} {fb fs : Vec F S8192 .i32}
    (hb : HoldsA X.AI p n fb) (hs : HoldsA X.AB p n fs) (hk : 16 * k + 16 ≤ n)
    {off : Fin 1 → ℕ} (hoff : off 0 = 16 * k) (inb : ∀ a, off a + S16.size a ≤ S8192.size a) {Q : Unit → sProp 𝕄} :
    iprop(heldA d L X.T a fb fs ∗ (heldA d L X.T (stepA X (p + 16 * k) a) fb fs -∗ Q ⟨⟩))
      ⊢ wp frame (wpE (defs₀ (F := F)) 𝒱₀ (thr d L) none) Set.univ (tripA L off inb) Q := by
  have eb : (aiW).view.readAt (Elt F) (Rect.unit (s := S8192) off S16.size inb).toLoadRect fb = lanesA X.AI (p + 16 * k) := load_lanesA hb hk hoff inb
  have es : (abW).view.readAt (Elt F) (Rect.unit (s := S8192) off S16.size inb).toLoadRect fs = lanesA X.AB (p + 16 * k) := load_lanesA hs hk hoff inb
  have rT : ((tW).access (.whole S16)).read (Elt F) X.T = X.T := Memref.read_access_whole (Val := Elt F) (cc0_scratch1 : Ref sig .scVector) X.T
  have rA : ((accW).access (.whole S1024)).read (Elt F) a = a := Memref.read_access_whole (Val := Elt F) (cc0_scratch2 : Ref sig .scVector) a
  have wA : ∀ g : Vec F S1024 .f32, ((accW).access (.whole S1024)).write (Elt F) a g Finset.univ = g :=
    Memref.write_access_whole_univ (Val := Elt F) (cc0_scratch2 : Ref sig .scVector) a
  unfold tripA
  simp only [Prog.lift, Prog.bind_op, Prog.bind_ret, Prog.pure_eq_ret]
  iintro ⟨⟨Ht, Ha, Hb, Hs⟩, HQ⟩
  iapply (wp_load 𝒱₀ (thr d L) none Set.univ (m := aiW) (S := Finset.univ) (Finset.subset_univ _)) $$ Hb; iintro Hb
  rw [eb, wp_assume_of _ _ _ _ (chkAI X _)]
  iapply (wp_load 𝒱₀ (thr d L) none Set.univ (m := abW) (S := Finset.univ) (Finset.subset_univ _)) $$ Hs; iintro Hs
  rw [es, wp_assume_of _ _ _ _ (chkAB X _)]
  iapply (SparseCore.wp_vectorLoadIdx 𝒱₀ (thr d L) none Set.univ (base := tW) (S := Finset.univ) (Finset.subset_univ _)) $$ Ht; iintro Ht
  ihave Ha' := (Entails.of_eq (pts_accWhole (F := F) d L _).symm) $$ Ha
  iapply (SparseCore.wp_vectorStoreIdx 𝒱₀ (thr d L) none Set.univ (base := accW)) $$ Ha'; iintro Ha
  rw [rT, rA, wA]
  ihave Ha := (Entails.of_eq (pts_accWhole (F := F) d L _)) $$ Ha
  rw [wp_ret]; imodintro
  iapply HQ
  isplitl [Ht]; · iexact Ht
  isplitl [Ha]; · iexact Ha
  isplitl [Hb] <;> iassumption

/-- The atom loop: its trips take the accumulator to `runA`. -/
theorem loopA_wp {p n : ℕ} {a : Vec F S1024 .f32} {fb fs : Vec F S8192 .i32}
    (hb : HoldsA X.AI p n fb) (hs : HoldsA X.AB p n fs)
    (l : Scf.Loop 32) (hok : l.OK) (hn : 16 * l.trips ≤ n) {off : Fin l.trips → Fin 1 → ℕ} (hoff : ∀ k, off k 0 = 16 * k.val)
    (inb : ∀ k, ∀ a, off k a + S16.size a ≤ S8192.size a)
    (body : Fin l.trips → Unit → Prog (TpuEff nD τ sig (Elt F) Λ₀ (.scVector ((L 0).castLE hcore0) ((L 1).castLE hsub0))) Unit)
    (hbody : ∀ k u, body k u = tripA L (off k) (inb k))
    {β : Type} {kk : Unit → Prog (TpuEff nD τ sig (Elt F) Λ₀ (.scVector ((L 0).castLE hcore0) ((L 1).castLE hsub0))) β} {Q : β → sProp 𝕄} :
    iprop(heldA d L X.T a fb fs ∗ (heldA d L X.T (runA X p l.trips a) fb fs -∗ wp frame (wpE (defs₀ (F := F)) 𝒱₀ (thr d L) none) Set.univ (kk ⟨⟩) Q))
      ⊢ wp frame (wpE (defs₀ (F := F)) 𝒱₀ (thr d L) none) Set.univ (Scf.Loop.for l hok ⟨⟩ body >>= kk) Q := by
  iintro ⟨HI, HQ⟩
  sl_for (fun k _ => heldA d L X.T (runA X p k a) fb fs) $$ [HI]
  case region =>
    intro k u
    show _ ⊢ wp _ _ _ (body k u) _
    rw [hbody]
    iintro H
    iapply (tripA_wp d L X (a := runA X p k.val a) hb hs (k := k.val) (by have : k.val < l.trips := k.isLt; omega) (hoff k) (inb k))
    isplitl [H]; · iexact H
    iintro H; iexact H
  · iexact HI
  iintro %_ HI
  iapply HQ; iexact HI

/-- The region of the zeroing loop's trip, at the trip's offset. -/
def tripZ (off : Fin 1 → ℕ) (inb : ∀ a, off a + S16.size a ≤ S1024.size a) :
    Prog (TpuEff nD τ sig (Elt F) Λ₀ (.scVector ((L 0).castLE hcore0) ((L 1).castLE hsub0))) Unit := do
  let _v : Vec F S16 .f32 ← Prog.lift (.load accW (Rect.unit (s := S1024) off S16.size inb).toLoadRect (View.loadsAt_vmem h_S16))
  Prog.lift (.store accW (Rect.unit (s := S1024) off S16.size inb) (k0_pay1 (F := F)) Finset.univ (View.stores_vmem_bits_univ h_S16 rfl) (.inl rfl))
  pure ⟨⟩

/-- The accumulator is zero below element `n`. -/
def ZeroBelow (n : ℕ) (a : Vec F S1024 .f32) : Prop := ∀ j : S1024.Idx, (j 0).val < n → a j = zeros j

theorem zeroBelow_write {k : ℕ} {a : Vec F S1024 .f32} (ha : ZeroBelow (16 * k) a) {off : Fin 1 → ℕ} (hoff : off 0 = 16 * k)
    (inb : ∀ a, off a + S16.size a ≤ S1024.size a) :
    ZeroBelow (16 * (k + 1)) (((accW).access (Rect.unit (s := S1024) off S16.size inb)).write (Elt F) a (k0_pay1 (F := F)) Finset.univ : Vec F S1024 .f32) := by
  intro j hj
  by_cases h : 16 * k ≤ (j 0).val
  · obtain ⟨x, rfl⟩ : ∃ x : (Rect.unit (s := S1024) off S16.size inb).shape.Idx, (Rect.unit (s := S1024) off S16.size inb).emb x = j := by
      refine ⟨(fun | 0 => ⟨(j 0).val - 16 * k, show _ < 16 by omega⟩), ?_⟩
      funext a; obtain rfl : a = 0 := Subsingleton.elim _ _
      apply Fin.ext
      rw [Rect.emb_apply]
      show off 0 + 1 * ((j 0).val - 16 * k) = _
      omega
    exact (View.read_slice_write_emb (v := (accW).view) (Rect.unit (s := S1024) off S16.size inb) a (k0_pay1 (F := F)) (Finset.mem_univ x)).trans rfl
  · refine Eq.trans ?_ (ha j (by omega))
    refine View.read_slice_write_of_not_mem (v := (accW).view) (Rect.unit (s := S1024) off S16.size inb) a (k0_pay1 (F := F)) Finset.univ ?_
    intro hm
    obtain ⟨x, -, hx⟩ := Finset.mem_map.mp hm
    have hj0 : ((Rect.unit (s := S1024) off S16.size inb).emb x 0).val = (j 0).val := by rw [hx]
    have e : ((Rect.unit (s := S1024) off S16.size inb).emb x 0).val = off 0 + 1 * (x 0).val := Rect.emb_apply _ _ _
    rw [e, hoff] at hj0
    omega

/-- The zeroing loop leaves the accumulator zero. -/
theorem loopZ_wp (a : Vec F S1024 .f32)
    (l : Scf.Loop 32) (hok : l.OK) (hn : l.trips = 64) {off : Fin l.trips → Fin 1 → ℕ} (hoff : ∀ k, off k 0 = 16 * k.val)
    (inb : ∀ k, ∀ a, off k a + S16.size a ≤ S1024.size a)
    (body : Fin l.trips → Unit → Prog (TpuEff nD τ sig (Elt F) Λ₀ (.scVector ((L 0).castLE hcore0) ((L 1).castLE hsub0))) Unit)
    (hbody : ∀ k u, body k u = tripZ L (off k) (inb k))
    {β : Type} {kk : Unit → Prog (TpuEff nD τ sig (Elt F) Λ₀ (.scVector ((L 0).castLE hcore0) ((L 1).castLE hsub0))) β} {Q : β → sProp 𝕄} :
    iprop(((accW).view.loc (thr d L) ↦{fullShare} a)
        ∗ (((accW).view.loc (thr d L) ↦{fullShare} (zeros : Vec F S1024 .f32)) -∗ wp frame (wpE (defs₀ (F := F)) 𝒱₀ (thr d L) none) Set.univ (kk ⟨⟩) Q))
      ⊢ wp frame (wpE (defs₀ (F := F)) 𝒱₀ (thr d L) none) Set.univ (Scf.Loop.for l hok ⟨⟩ body >>= kk) Q := by
  iintro ⟨HI, HQ⟩
  sl_for (fun k _ => iprop(∃ f : Vec F S1024 .f32, ⌜ZeroBelow (16 * k) f⌝ ∗ ((accW).view.loc (thr d L) ↦{fullShare} f))) $$ [HI]
  case region =>
    intro k u
    show _ ⊢ wp _ _ _ (body k u) _
    rw [hbody]
    unfold tripZ
    simp only [Prog.lift, Prog.bind_op, Prog.bind_ret, Prog.pure_eq_ret]
    iintro ⟨%f, %hf, Ha⟩
    iapply (wp_load 𝒱₀ (thr d L) none Set.univ (m := accW) (S := Finset.univ) (Finset.subset_univ _)) $$ Ha; iintro Ha
    iapply (wp_store 𝒱₀ (thr d L) none Set.univ (m := accW) (r := Rect.unit (s := S1024) (off k) S16.size (inb k)) (Mk := Finset.univ) (S := Finset.univ) (Finset.subset_univ _)) $$ Ha; iintro Ha
    rw [wp_ret]; imodintro
    iexists (((accW).access (Rect.unit (s := S1024) (off k) S16.size (inb k))).write (Elt F) f (k0_pay1 (F := F)) Finset.univ : Vec F S1024 .f32); isplitr
    · ipureintro; exact zeroBelow_write hf (hoff k) (inb k)
    · iexact Ha
  · iexists a; isplitr
    · ipureintro; exact fun j hj => absurd hj (Nat.not_lt_zero _)
    · iexact HI
  iintro %_ ⟨%f, %hf, HI⟩
  have hn' : Scf.trips l.lb l.ub l.st = 64 := hn
  obtain rfl : f = zeros := funext fun j => hf j (by have : (j 0).val < 1024 := (j 0).isLt; omega)
  iapply HQ; iexact HI

end Cert.Proof.Sc

end
-- ==== Proof.ScTile.lean ====
/-
  The kernel's body on one tile, at a symbolic SparseCore and subcore: from read shares of the seven arrays, its own row of
  the output and its scratch, it leaves the row at `tileAcc`.
-/
module

public import proofs.«01_k».proof.Proof.ScTrip
public import Idealize.ShloMosaic.Lib.SparseCore.ProtocolKit

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.ProtocolKit Idealize.ShloMosaic.Rounds

variable {F : FTy → Type} [FloatOps F]

local notation "𝕄" => MT nD τ sig (HIx 1) (Elt F) ℕ UU ℕ
abbrev cH : Memref Cert.KernelIdeal.sig Kind.scVector Space.hbm Cert.KernelIdeal.S1600000 EltTy.f32 := Memref.whole Cert.KernelIdeal.main_arg1_scv
abbrev bH : Memref Cert.KernelIdeal.sig Kind.scVector Space.hbm Cert.KernelIdeal.S1600000 EltTy.i32 := Memref.whole Cert.KernelIdeal.main_arg2_scv
abbrev sH : Memref Cert.KernelIdeal.sig Kind.scVector Space.hbm Cert.KernelIdeal.S1600000 EltTy.i32 := Memref.whole Cert.KernelIdeal.main_arg4_scv
abbrev aiH : Memref Cert.KernelIdeal.sig Kind.scVector Space.hbm Cert.KernelIdeal.S100352 EltTy.i32 := Memref.whole Cert.KernelIdeal.main_v1_scv
abbrev abH : Memref Cert.KernelIdeal.sig Kind.scVector Space.hbm Cert.KernelIdeal.S100352 EltTy.i32 := Memref.whole Cert.KernelIdeal.main_v3_scv
abbrev gH : Memref Cert.KernelIdeal.sig Kind.scVector Space.hbm Cert.KernelIdeal.S64 EltTy.f32 := Memref.whole Cert.KernelIdeal.main_arg6_scv
abbrev tH : Memref Cert.KernelIdeal.sig Kind.scVector Space.hbm Cert.KernelIdeal.S16 EltTy.f32 := Memref.whole Cert.KernelIdeal.main_v5_scv
abbrev oH : Memref Cert.KernelIdeal.sig Kind.scVector Space.hbm Cert.KernelIdeal.S32x1024 EltTy.f32 := Memref.whole Cert.KernelIdeal.main_v6_scv

variable (d : Dev nD) (L : grid0.Coords) (X : Inputs F)

/-- The tile's row of the output, as the kernel slices it. -/
abbrev oRow : Memref sig .scVector .hbm S1024 .f32 :=
  ((oH).slice (Rect.unit (s := S32x1024) (k0_off13 L) S1x1024.size (k0_off13_inb L)) (fun _ => rfl)).squeeze S1024 squeezes_S1x1024_S1024

/-- Read shares of the seven arrays. -/
abbrev arrs (q : PosShare TreeShare) : sProp 𝕄 :=
  iprop(((cH).view.loc (thr d L) ↦{q} X.C) ∗ ((bH).view.loc (thr d L) ↦{q} X.B) ∗ ((sH).view.loc (thr d L) ↦{q} X.S)
    ∗ ((aiH).view.loc (thr d L) ↦{q} X.AI) ∗ ((abH).view.loc (thr d L) ↦{q} X.AB) ∗ ((gH).view.loc (thr d L) ↦{q} X.G)
    ∗ ((tH).view.loc (thr d L) ↦{q} X.T))

/-- The scratch buffers, at any contents. -/
abbrev scratch : sProp 𝕄 :=
  iprop((∃ f, (gW).view.loc (thr d L) ↦{fullShare} f) ∗ (∃ f, (tW).view.loc (thr d L) ↦{fullShare} f) ∗ (∃ f, (accW).view.loc (thr d L) ↦{fullShare} f)
    ∗ (∃ f, (cW).view.loc (thr d L) ↦{fullShare} f) ∗ (∃ f, (bW).view.loc (thr d L) ↦{fullShare} f) ∗ (∃ f, (sW).view.loc (thr d L) ↦{fullShare} f)
    ∗ (∃ f, (aiW).view.loc (thr d L) ↦{fullShare} f) ∗ (∃ f, (abW).view.loc (thr d L) ↦{fullShare} f))

/-- A copy's cell. -/
abbrev cell (s : DmaSems sig S_) : GSem nD τ sig := (thr d L, SemLoc.dma s.sem)

abbrev sems : sProp 𝕄 :=
  iprop(semVal (cell d L cc0_scoped0) 0 ∗ semVal (cell d L cc0_scoped1) 0 ∗ semVal (cell d L cc0_scoped2) 0 ∗ semVal (cell d L cc0_scoped3) 0
    ∗ semVal (cell d L cc0_scoped4) 0 ∗ semVal (cell d L cc0_scoped5) 0 ∗ semVal (cell d L cc0_scoped6) 0 ∗ semVal (cell d L cc0_scoped7) 0
    ∗ semVal (cell d L cc0_scoped8) 0 ∗ semVal (cell d L cc0_scoped9) 0 ∗ semVal (cell d L cc0_scoped10) 0 ∗ semVal (cell d L cc0_scoped11) 0
    ∗ semVal (cell d L cc0_scoped12) 0 ∗ semVal (cell d L cc0_scoped13) 0 ∗ semVal (cell d L cc0_scoped14) 0 ∗ semVal (cell d L cc0_scoped15) 0
    ∗ semVal (cell d L cc0_scoped16) 0 ∗ semVal (cell d L cc0_scoped17) 0 ∗ semVal (cell d L cc0_scoped18) 0 ∗ semVal (cell d L cc0_scoped19) 0
    ∗ semVal (cell d L cc0_scoped20) 0 ∗ semVal (cell d L cc0_scoped21) 0 ∗ semVal (cell d L cc0_scoped22) 0 ∗ semVal (cell d L cc0_scoped23) 0
    ∗ semVal (cell d L cc0_scoped24) 0 ∗ semVal (cell d L cc0_scoped25) 0)

/-- A block of 8192 entries, read at the offset `8192 r` of the tile's part, is the part's entries from there on. -/
theorem holdsC_read {α : Type} (A : S1600000.Idx → α) (r : Fin 6) :
    HoldsC A (50000 * wid L + 8192 * r.val) 8192
      (fun j : S8192.Idx => A ((Rect.unit (s := S1600000) (k0_off2 L (BitVec.ofNat 32 (8192 * r.val))) S8192.size (k0_off2_inb L r)).emb j)) := by
  intro j _
  have h0 : (L 0).val < 2 := (L 0).isLt
  have h1 : (L 1).val < 16 := (L 1).isLt
  have hj : (j 0).val < 8192 := (j 0).isLt
  refine congrArg A ?_
  funext a
  match a with
  | 0 =>
    refine Fin.ext ?_
    have e := congrFun (k0_off2_eq L r) 0
    have er : r.val < 6 := r.isLt
    show k0_off2 L (BitVec.ofNat 32 (8192 * r.val)) 0 + 1 * (j 0).val = (50000 * wid L + 8192 * r.val + (j 0).val) % 1600000
    rw [e, Matrix.cons_val_zero, wid]
    omega

theorem holds_c (f : Vec F S8192 .f32) (r : Fin 6) :
    HoldsC X.C (50000 * wid L + 8192 * r.val) 8192
      ((cW).view.write (Elt F) f ((cH).slice (Rect.unit (s := S1600000) (k0_off2 L (BitVec.ofNat 32 (8192 * r.val))) S8192.size (k0_off2_inb L r)) (fun _ => rfl) |>.view.read (Elt F) X.C) Finset.univ) :=
  (congrArg (HoldsC X.C _ _) (View.write_whole_univ (Val := Elt F) cc0_scratch3 f _)).mpr (holdsC_read L X.C r)

theorem holds_b (f : Vec F S8192 .i32) (r : Fin 6) :
    HoldsC X.B (50000 * wid L + 8192 * r.val) 8192
      ((bW).view.write (Elt F) f ((bH).slice (Rect.unit (s := S1600000) (k0_off2 L (BitVec.ofNat 32 (8192 * r.val))) S8192.size (k0_off2_inb L r)) (fun _ => rfl) |>.view.read (Elt F) X.B) Finset.univ) :=
  (congrArg (HoldsC X.B _ _) (View.write_whole_univ (Val := Elt F) cc0_scratch4 f _)).mpr (holdsC_read L X.B r)

theorem holds_s (f : Vec F S8192 .i32) (r : Fin 6) :
    HoldsC X.S (50000 * wid L + 8192 * r.val) 8192
      ((sW).view.write (Elt F) f ((sH).slice (Rect.unit (s := S1600000) (k0_off2 L (BitVec.ofNat 32 (8192 * r.val))) S8192.size (k0_off2_inb L r)) (fun _ => rfl) |>.view.read (Elt F) X.S) Finset.univ) :=
  (congrArg (HoldsC X.S _ _) (View.write_whole_univ (Val := Elt F) cc0_scratch5 f _)).mpr (holdsC_read L X.S r)

/-- One block's loop: the accumulator goes from the first `512 r` trips to the first `512 (r + 1)`. -/
theorem blockC_wp (r : ℕ) {fc : Vec F S8192 .f32} {fb fs : Vec F S8192 .i32}
    (hc : HoldsC X.C (50000 * wid L + 8192 * r) 8192 fc) (hb : HoldsC X.B (50000 * wid L + 8192 * r) 8192 fb) (hs : HoldsC X.S (50000 * wid L + 8192 * r) 8192 fs)
    (l : Scf.Loop 32) (hok : l.OK) (hn : l.trips = 512) {off : Fin l.trips → Fin 1 → ℕ} (hoff : ∀ k, off k 0 = 16 * k.val)
    (inb : ∀ k, ∀ a, off k a + S16.size a ≤ S8192.size a)
    (body : Fin l.trips → Unit → Prog (TpuEff nD τ sig (Elt F) Λ₀ (.scVector ((L 0).castLE hcore0) ((L 1).castLE hsub0))) Unit)
    (hbody : ∀ k u, body k u = tripC L (off k) (inb k))
    {β : Type} {kk : Unit → Prog (TpuEff nD τ sig (Elt F) Λ₀ (.scVector ((L 0).castLE hcore0) ((L 1).castLE hsub0))) β} {Q : β → sProp 𝕄} :
    iprop(heldC d L X.G (runC X (50000 * wid L) (512 * r) zeros) fc fb fs
        ∗ (heldC d L X.G (runC X (50000 * wid L) (512 * (r + 1)) zeros) fc fb fs -∗ wp frame (wpE (defs₀ (F := F)) 𝒱₀ (thr d L) none) Set.univ (kk ⟨⟩) Q))
      ⊢ wp frame (wpE (defs₀ (F := F)) 𝒱₀ (thr d L) none) Set.univ (Scf.Loop.for l hok ⟨⟩ body >>= kk) Q := by
  have e : runC X (50000 * wid L + 8192 * r) l.trips (runC X (50000 * wid L) (512 * r) zeros) = runC X (50000 * wid L) (512 * (r + 1)) zeros := by
    rw [show 8192 * r = 16 * (512 * r) by omega, runC_add, hn]; rfl
  rw [← e]
  exact loopC_wp d L X hc hb hs l hok (by omega) hoff inb body hbody

/-- The basis table, once its copy has landed. -/
theorem pts_gTab (f g : Vec F S64 .f32) (h : g = X.G) :
    ((gW).view.loc (thr d L) ↦{fullShare} ((gW).view.write (Elt F) f g Finset.univ) : sProp 𝕄) = ((gW).view.loc (thr d L) ↦{fullShare} X.G) :=
  congrArg (fun g => ((gW).view.loc (thr d L) ↦{fullShare} g : sProp 𝕄)) ((View.write_whole_univ (Val := Elt F) cc0_scratch0 f g).trans h)

/-- The element table, once its copy has landed. -/
theorem pts_tTab (f g : Vec F S16 .f32) (h : g = X.T) :
    ((tW).view.loc (thr d L) ↦{fullShare} ((tW).view.write (Elt F) f g Finset.univ) : sProp 𝕄) = ((tW).view.loc (thr d L) ↦{fullShare} X.T) :=
  congrArg (fun g => ((tW).view.loc (thr d L) ↦{fullShare} g : sProp 𝕄)) ((View.write_whole_univ (Val := Elt F) cc0_scratch1 f g).trans h)

/-- What a part passes through: the arrays, the element table, the atoms' staging buffers, the cells and the waits. -/
abbrev rest (q : PosShare TreeShare) (O : CellTallies nD τ sig (HIx 1)) (W : Waits sig (HIx 1)) : sProp 𝕄 :=
  iprop(arrs d L X q ∗ ((tW).view.loc (thr d L) ↦{fullShare} X.T) ∗ (∃ f, (aiW).view.loc (thr d L) ↦{fullShare} f)
    ∗ (∃ f, (abW).view.loc (thr d L) ↦{fullShare} f) ∗ sems d L ∗ ∃ W', ⌜∀ p ∈ W', p ∈ W ∨ p.2 = none⌝ ∗ owes (thr d L) O W')

theorem part1_wp (q : PosShare TreeShare) (O : CellTallies nD τ sig (HIx 1)) (W : Waits sig (HIx 1)) :
    iprop(□ Transfers.MayWaits (thr d L) (none : HIx 1) O ∗ arrs d L X q ∗ scratch d L ∗ sems d L ∗ owes (thr d L) O W)
      ⊢ wp frame (wpE (defs₀ (F := F)) 𝒱₀ (thr d L) none) Set.univ
          (k0_part1 L cH (Memref.isWhole_whole _) bH (Memref.isWhole_whole _) sH (Memref.isWhole_whole _) aiH (Memref.isWhole_whole _)
            abH (Memref.isWhole_whole _) gH (Memref.isWhole_whole _) tH (Memref.isWhole_whole _) oH (Memref.isWhole_whole _)
            gW (Memref.isWhole_whole _) tW (Memref.isWhole_whole _) accW (Memref.isWhole_whole _) cW (Memref.isWhole_whole _)
            bW (Memref.isWhole_whole _) sW (Memref.isWhole_whole _) aiW (Memref.isWhole_whole _) abW (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18
            cc0_scoped19 cc0_scoped20 cc0_scoped21 cc0_scoped22 cc0_scoped23 cc0_scoped24 cc0_scoped25)
          fun _ => iprop(∃ fc fb fs, heldC d L X.G (runC X (50000 * wid L) (512 * 1) zeros) fc fb fs
            ∗ ⌜HoldsC X.C (50000 * wid L + 8192 * 1) 8192 fc ∧ HoldsC X.B (50000 * wid L + 8192 * 1) 8192 fb⌝ ∗ rest d L X q O W) := by
  simp only [k0_part1_eq_skeleton]; unfold k0_part1_skel
  iintro ⟨#Hmw, ⟨HC, HB, HS, HAI, HAB, HG, HT⟩, ⟨⟨%fg, Hg⟩, ⟨%ft, Ht⟩, ⟨%fa, Ha⟩, ⟨%fc, Hc⟩, ⟨%fb, Hb⟩, ⟨%fs, Hs⟩, ⟨%fai, Hai⟩, ⟨%fab, Hab⟩⟩,
    ⟨Hm0, Hm1, Hm2, Hm3, Hm4, Hm5, Hm6, Hmr⟩, HO⟩
  sl_exec
  ihave Hg := (Entails.of_eq (pts_gTab d L X fg (part1_wp.sl.dma0 X) rfl)) $$ Hg
  ihave Ht := (Entails.of_eq (pts_tTab d L X ft (part1_wp.sl.dma0_1 X) rfl)) $$ Ht
  iapply (loopZ_wp d L _ k0_t1_loop k0_t1_ok rfl (off := k0_off1) (fun k => by rw [k0_off1_eq]; rfl) k0_off1_inb _ (fun _ _ => rfl))
  isplitl [Ha]; · iexact Ha
  iintro Ha
  sl_exec (disch := exact View.amount_pos _ _ (show 0 < S8192.numel by decide))
  iapply (blockC_wp d L X 0 (holds_c L X fc 0) (holds_b L X fb 0) (holds_s L X fs 0) k0_t2_loop k0_t2_ok rfl (off := k0_off3)
    (fun k => by rw [k0_off3_eq]; rfl) k0_off3_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_exec (disch := exact View.amount_pos _ _ (show 0 < S8192.numel by decide))
  sl_step
  iexists _, _, _
  isplitl [Hg Ha Hc Hb Hs]
  · isplitl [Hg]; · iexact Hg
    isplitl [Ha]; · iexact Ha
    isplitl [Hc]; · iexact Hc
    isplitl [Hb]; · iexact Hb
    iexact Hs
  isplitr
  · ipureintro; exact ⟨holds_c L X _ 1, holds_b L X _ 1⟩
  isplitl [HC HB HS HAI HAB HG HT]; · iclose
  isplitl [Ht]; · iexact Ht
  isplitl [Hai]; · iexists _; iexact Hai
  isplitl [Hab]; · iexists _; iexact Hab
  isplitl [Hm0 Hm1 Hm2 Hm3 Hm4 Hm5 Hm6 Hmr]; · iclose
  iowes_recorded HO

theorem part2_wp (q : PosShare TreeShare) (O : CellTallies nD τ sig (HIx 1)) (W : Waits sig (HIx 1)) (v3 : BitVec 32)
    {fc : Vec F S8192 .f32} {fb fs : Vec F S8192 .i32} (hc : HoldsC X.C (50000 * wid L + 8192 * 1) 8192 fc) (hb : HoldsC X.B (50000 * wid L + 8192 * 1) 8192 fb) :
    iprop(□ Transfers.MayWaits (thr d L) (none : HIx 1) O ∗ heldC d L X.G (runC X (50000 * wid L) (512 * 1) zeros) fc fb fs ∗ rest d L X q O W)
      ⊢ wp frame (wpE (defs₀ (F := F)) 𝒱₀ (thr d L) none) Set.univ
          (k0_part2 L cH (Memref.isWhole_whole _) bH (Memref.isWhole_whole _) sH (Memref.isWhole_whole _) aiH (Memref.isWhole_whole _)
            abH (Memref.isWhole_whole _) gH (Memref.isWhole_whole _) tH (Memref.isWhole_whole _) oH (Memref.isWhole_whole _)
            gW (Memref.isWhole_whole _) tW (Memref.isWhole_whole _) accW (Memref.isWhole_whole _) cW (Memref.isWhole_whole _)
            bW (Memref.isWhole_whole _) sW (Memref.isWhole_whole _) aiW (Memref.isWhole_whole _) abW (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18
            cc0_scoped19 cc0_scoped20 cc0_scoped21 cc0_scoped22 cc0_scoped23 cc0_scoped24 cc0_scoped25 v3)
          fun _ => iprop(∃ fc fb fs, heldC d L X.G (runC X (50000 * wid L) (512 * 3) zeros) fc fb fs
            ∗ ⌜HoldsC X.C (50000 * wid L + 8192 * 3) 8192 fc ∧ HoldsC X.B (50000 * wid L + 8192 * 3) 8192 fb ∧ HoldsC X.S (50000 * wid L + 8192 * 3) 8192 fs⌝
            ∗ rest d L X q O W) := by
  simp only [k0_part2_eq_skeleton]; unfold k0_part2_skel
  iintro ⟨#Hmw, ⟨Hg, Ha, Hc, Hb, Hs⟩,
    ⟨HC, HB, HS, HAI, HAB, HG, HT⟩, Ht, ⟨%fai, Hai⟩, ⟨%fab, Hab⟩,
    ⟨Hm0, Hm1, Hm2, Hm3, Hm4, Hm5, Hm6, Hm7, Hm8, Hm9, Hm10, Hm11, Hm12, Hm13, Hmr⟩, %W', %hW', HO⟩
  sl_exec (disch := exact View.amount_pos _ _ (show 0 < S8192.numel by decide))
  iapply (blockC_wp d L X 1 hc hb (holds_s L X _ 1) k0_t3_loop k0_t3_ok rfl (off := k0_off4)
    (fun k => by rw [k0_off4_eq]; rfl) k0_off4_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_exec (disch := exact View.amount_pos _ _ (show 0 < S8192.numel by decide))
  iapply (blockC_wp d L X 2 (holds_c L X _ 2) (holds_b L X _ 2) (holds_s L X _ 2) k0_t4_loop k0_t4_ok rfl (off := k0_off5)
    (fun k => by rw [k0_off5_eq]; rfl) k0_off5_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_exec (disch := exact View.amount_pos _ _ (show 0 < S8192.numel by decide))
  sl_step
  iexists _, _, _
  isplitl [Hg Ha Hc Hb Hs]
  · isplitl [Hg]; · iexact Hg
    isplitl [Ha]; · iexact Ha
    isplitl [Hc]; · iexact Hc
    isplitl [Hb]; · iexact Hb
    iexact Hs
  isplitr
  · ipureintro; exact ⟨holds_c L X _ 3, holds_b L X _ 3, holds_s L X _ 3⟩
  isplitl [HC HB HS HAI HAB HG HT]; · iclose
  isplitl [Ht]; · iexact Ht
  isplitl [Hai]; · iexists _; iexact Hai
  isplitl [Hab]; · iexists _; iexact Hab
  isplitl [Hm0 Hm1 Hm2 Hm3 Hm4 Hm5 Hm6 Hm7 Hm8 Hm9 Hm10 Hm11 Hm12 Hm13 Hmr]; · iclose
  iowes_recorded HO

theorem part3_wp (q : PosShare TreeShare) (O : CellTallies nD τ sig (HIx 1)) (W : Waits sig (HIx 1)) (v3 : BitVec 32)
    {fc : Vec F S8192 .f32} {fb fs : Vec F S8192 .i32} (hc : HoldsC X.C (50000 * wid L + 8192 * 3) 8192 fc) (hb : HoldsC X.B (50000 * wid L + 8192 * 3) 8192 fb)
    (hs : HoldsC X.S (50000 * wid L + 8192 * 3) 8192 fs) :
    iprop(□ Transfers.MayWaits (thr d L) (none : HIx 1) O ∗ heldC d L X.G (runC X (50000 * wid L) (512 * 3) zeros) fc fb fs ∗ rest d L X q O W)
      ⊢ wp frame (wpE (defs₀ (F := F)) 𝒱₀ (thr d L) none) Set.univ
          (k0_part3 L cH (Memref.isWhole_whole _) bH (Memref.isWhole_whole _) sH (Memref.isWhole_whole _) aiH (Memref.isWhole_whole _)
            abH (Memref.isWhole_whole _) gH (Memref.isWhole_whole _) tH (Memref.isWhole_whole _) oH (Memref.isWhole_whole _)
            gW (Memref.isWhole_whole _) tW (Memref.isWhole_whole _) accW (Memref.isWhole_whole _) cW (Memref.isWhole_whole _)
            bW (Memref.isWhole_whole _) sW (Memref.isWhole_whole _) aiW (Memref.isWhole_whole _) abW (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18
            cc0_scoped19 cc0_scoped20 cc0_scoped21 cc0_scoped22 cc0_scoped23 cc0_scoped24 cc0_scoped25 v3)
          fun _ => iprop(∃ fc fb fs, heldC d L X.G (runC X (50000 * wid L) (512 * 6) zeros) fc fb fs ∗ rest d L X q O W) := by
  simp only [k0_part3_eq_skeleton]; unfold k0_part3_skel
  iintro ⟨#Hmw, ⟨Hg, Ha, Hc, Hb, Hs⟩,
    ⟨HC, HB, HS, HAI, HAB, HG, HT⟩, Ht, ⟨%fai, Hai⟩, ⟨%fab, Hab⟩,
    ⟨Hm0, Hm1, Hm2, Hm3, Hm4, Hm5, Hm6, Hm7, Hm8, Hm9, Hm10, Hm11, Hm12, Hm13, Hm14, Hm15, Hm16, Hm17, Hm18, Hm19, Hmr⟩, %W', %hW', HO⟩
  iapply (blockC_wp d L X 3 hc hb hs k0_t5_loop k0_t5_ok rfl (off := k0_off6)
    (fun k => by rw [k0_off6_eq]; rfl) k0_off6_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_exec (disch := exact View.amount_pos _ _ (show 0 < S8192.numel by decide))
  iapply (blockC_wp d L X 4 (holds_c L X _ 4) (holds_b L X _ 4) (holds_s L X _ 4) k0_t6_loop k0_t6_ok rfl (off := k0_off7)
    (fun k => by rw [k0_off7_eq]; rfl) k0_off7_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_exec (disch := exact View.amount_pos _ _ (show 0 < S8192.numel by decide))
  iapply (blockC_wp d L X 5 (holds_c L X _ 5) (holds_b L X _ 5) (holds_s L X _ 5) k0_t7_loop k0_t7_ok rfl (off := k0_off8)
    (fun k => by rw [k0_off8_eq]; rfl) k0_off8_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_step
  iexists _, _, _
  isplitl [Hg Ha Hc Hb Hs]
  · isplitl [Hg]; · iexact Hg
    isplitl [Ha]; · iexact Ha
    isplitl [Hc]; · iexact Hc
    isplitl [Hb]; · iexact Hb
    iexact Hs
  isplitl [HC HB HS HAI HAB HG HT]; · iclose
  isplitl [Ht]; · iexact Ht
  isplitl [Hai]; · iexists _; iexact Hai
  isplitl [Hab]; · iexists _; iexact Hab
  isplitl [Hm0 Hm1 Hm2 Hm3 Hm4 Hm5 Hm6 Hm7 Hm8 Hm9 Hm10 Hm11 Hm12 Hm13 Hm14 Hm15 Hm16 Hm17 Hm18 Hm19 Hmr]; · iclose
  iowes_recorded HO

/-- The position below 848 of a staging buffer's entry. -/
def at848 (j : S8192.Idx) (hj : (j 0).val < 848) : S848.Idx := fun | 0 => ⟨(j 0).val, hj⟩

/-- A staging buffer whose first 848 entries are the coefficients' last 848 of the tile holds them. -/
theorem holdsC_landed {α : Type} (A : S1600000.Idx → α) (f : S8192.Idx → α)
    (h : ∀ (j : S8192.Idx) (hj : (j 0).val < 848), f j = A ((Rect.unit (s := S1600000) (k0_off9 L) S848.size (k0_off9_inb L)).emb (at848 j hj))) :
    HoldsC A (50000 * wid L + 8192 * 6) 848 f := by
  intro j hj
  have h0 : (L 0).val < 2 := (L 0).isLt
  have h1 : (L 1).val < 16 := (L 1).isLt
  rw [h j hj]
  refine congrArg A ?_
  funext a
  match a with
  | 0 =>
    refine Fin.ext ?_
    have e := congrFun (k0_off9_eq L) 0
    show k0_off9 L 0 + 1 * (j 0).val = (50000 * wid L + 8192 * 6 + (j 0).val) % 1600000
    rw [e, Matrix.cons_val_zero, wid]
    omega

theorem emb_at848 (j : S8192.Idx) (hj : (j 0).val < 848) : (Rect.unit (s := S8192) ![0] S848.size inb_S8192_S848_0).emb (at848 j hj) = j := by
  funext a
  match a with
  | 0 => exact Fin.ext (by show 0 + 1 * (j 0).val = (j 0).val; omega)

/-- The position below 3136 of a staging buffer's entry. -/
def at3136 (j : S8192.Idx) (hj : (j 0).val < 3136) : S3136.Idx := fun | 0 => ⟨(j 0).val, hj⟩

/-- The same of the tile's 3136 atoms. -/
theorem holdsA_landed {α : Type} (A : S100352.Idx → α) (f : S8192.Idx → α)
    (h : ∀ (j : S8192.Idx) (hj : (j 0).val < 3136), f j = A ((Rect.unit (s := S100352) (k0_off11 L) S3136.size (k0_off11_inb L)).emb (at3136 j hj))) :
    HoldsA A (3136 * wid L) 3136 f := by
  intro j hj
  have h0 : (L 0).val < 2 := (L 0).isLt
  have h1 : (L 1).val < 16 := (L 1).isLt
  rw [h j hj]
  refine congrArg A ?_
  funext a
  match a with
  | 0 =>
    refine Fin.ext ?_
    have e := congrFun (k0_off11_eq L) 0
    show k0_off11 L 0 + 1 * (j 0).val = (3136 * wid L + (j 0).val) % 100352
    rw [e, Matrix.cons_val_zero, wid]
    omega

theorem emb_at3136 (j : S8192.Idx) (hj : (j 0).val < 3136) : (Rect.unit (s := S8192) ![0] S3136.size inb_S8192_S3136_0).emb (at3136 j hj) = j := by
  funext a
  match a with
  | 0 => exact Fin.ext (by show 0 + 1 * (j 0).val = (j 0).val; omega)

theorem holds_c9 (f : Vec F S8192 .f32) :
    HoldsC X.C (50000 * wid L + 8192 * 6) 848
      ((cW.slice (Rect.unit (s := S8192) ![0] S848.size inb_S8192_S848_0) (fun _ => rfl)).view.write (Elt F) f
        ((cH.slice (Rect.unit (s := S1600000) (k0_off9 L) S848.size (k0_off9_inb L)) (fun _ => rfl)).view.read (Elt F) X.C) Finset.univ) := by
  refine holdsC_landed L X.C _ fun j hj => ?_
  have h := View.write_emb_of_mem (Val := Elt F) (v := (cW.slice (Rect.unit (s := S8192) ![0] S848.size inb_S8192_S848_0) (fun _ => rfl)).view) f
    ((cH.slice (Rect.unit (s := S1600000) (k0_off9 L) S848.size (k0_off9_inb L)) (fun _ => rfl)).view.read (Elt F) X.C)
    (M := Finset.univ) (x := at848 j hj) (Finset.mem_univ _)
  rw [show (cW.slice (Rect.unit (s := S8192) ![0] S848.size inb_S8192_S848_0) (fun _ => rfl)).view.emb (at848 j hj) = j from emb_at848 j hj] at h
  exact h

theorem holds_b9 (f : Vec F S8192 .i32) :
    HoldsC X.B (50000 * wid L + 8192 * 6) 848
      ((bW.slice (Rect.unit (s := S8192) ![0] S848.size inb_S8192_S848_0) (fun _ => rfl)).view.write (Elt F) f
        ((bH.slice (Rect.unit (s := S1600000) (k0_off9 L) S848.size (k0_off9_inb L)) (fun _ => rfl)).view.read (Elt F) X.B) Finset.univ) := by
  refine holdsC_landed L X.B _ fun j hj => ?_
  have h := View.write_emb_of_mem (Val := Elt F) (v := (bW.slice (Rect.unit (s := S8192) ![0] S848.size inb_S8192_S848_0) (fun _ => rfl)).view) f
    ((bH.slice (Rect.unit (s := S1600000) (k0_off9 L) S848.size (k0_off9_inb L)) (fun _ => rfl)).view.read (Elt F) X.B)
    (M := Finset.univ) (x := at848 j hj) (Finset.mem_univ _)
  rw [show (bW.slice (Rect.unit (s := S8192) ![0] S848.size inb_S8192_S848_0) (fun _ => rfl)).view.emb (at848 j hj) = j from emb_at848 j hj] at h
  exact h

theorem holds_s9 (f : Vec F S8192 .i32) :
    HoldsC X.S (50000 * wid L + 8192 * 6) 848
      ((sW.slice (Rect.unit (s := S8192) ![0] S848.size inb_S8192_S848_0) (fun _ => rfl)).view.write (Elt F) f
        ((sH.slice (Rect.unit (s := S1600000) (k0_off9 L) S848.size (k0_off9_inb L)) (fun _ => rfl)).view.read (Elt F) X.S) Finset.univ) := by
  refine holdsC_landed L X.S _ fun j hj => ?_
  have h := View.write_emb_of_mem (Val := Elt F) (v := (sW.slice (Rect.unit (s := S8192) ![0] S848.size inb_S8192_S848_0) (fun _ => rfl)).view) f
    ((sH.slice (Rect.unit (s := S1600000) (k0_off9 L) S848.size (k0_off9_inb L)) (fun _ => rfl)).view.read (Elt F) X.S)
    (M := Finset.univ) (x := at848 j hj) (Finset.mem_univ _)
  rw [show (sW.slice (Rect.unit (s := S8192) ![0] S848.size inb_S8192_S848_0) (fun _ => rfl)).view.emb (at848 j hj) = j from emb_at848 j hj] at h
  exact h

theorem holds_ai (f : Vec F S8192 .i32) :
    HoldsA X.AI (3136 * wid L) 3136
      ((aiW.slice (Rect.unit (s := S8192) ![0] S3136.size inb_S8192_S3136_0) (fun _ => rfl)).view.write (Elt F) f
        ((aiH.slice (Rect.unit (s := S100352) (k0_off11 L) S3136.size (k0_off11_inb L)) (fun _ => rfl)).view.read (Elt F) X.AI) Finset.univ) := by
  refine holdsA_landed L X.AI _ fun j hj => ?_
  have h := View.write_emb_of_mem (Val := Elt F) (v := (aiW.slice (Rect.unit (s := S8192) ![0] S3136.size inb_S8192_S3136_0) (fun _ => rfl)).view) f
    ((aiH.slice (Rect.unit (s := S100352) (k0_off11 L) S3136.size (k0_off11_inb L)) (fun _ => rfl)).view.read (Elt F) X.AI)
    (M := Finset.univ) (x := at3136 j hj) (Finset.mem_univ _)
  rw [show (aiW.slice (Rect.unit (s := S8192) ![0] S3136.size inb_S8192_S3136_0) (fun _ => rfl)).view.emb (at3136 j hj) = j from emb_at3136 j hj] at h
  exact h

theorem holds_ab (f : Vec F S8192 .i32) :
    HoldsA X.AB (3136 * wid L) 3136
      ((abW.slice (Rect.unit (s := S8192) ![0] S3136.size inb_S8192_S3136_0) (fun _ => rfl)).view.write (Elt F) f
        ((abH.slice (Rect.unit (s := S100352) (k0_off11 L) S3136.size (k0_off11_inb L)) (fun _ => rfl)).view.read (Elt F) X.AB) Finset.univ) := by
  refine holdsA_landed L X.AB _ fun j hj => ?_
  have h := View.write_emb_of_mem (Val := Elt F) (v := (abW.slice (Rect.unit (s := S8192) ![0] S3136.size inb_S8192_S3136_0) (fun _ => rfl)).view) f
    ((abH.slice (Rect.unit (s := S100352) (k0_off11 L) S3136.size (k0_off11_inb L)) (fun _ => rfl)).view.read (Elt F) X.AB)
    (M := Finset.univ) (x := at3136 j hj) (Finset.mem_univ _)
  rw [show (abW.slice (Rect.unit (s := S8192) ![0] S3136.size inb_S8192_S3136_0) (fun _ => rfl)).view.emb (at3136 j hj) = j from emb_at3136 j hj] at h
  exact h

/-- The accumulator after the remainder of the coefficients and the atoms, from the first six blocks'. -/
theorem tileAcc_eq : runA X (3136 * wid L) k0_t9_loop.trips (runC X (50000 * wid L + 8192 * 6) k0_t8_loop.trips (runC X (50000 * wid L) (512 * 6) zeros)) = tileAcc X (wid L) := by
  rw [show (8192 * 6 : ℕ) = 16 * (512 * 6) from rfl, runC_add]; rfl

theorem wid_lt : wid L < 32 := by
  have h0 : (L 0).val < 2 := (L 0).isLt
  have h1 : (L 1).val < 16 := (L 1).isLt
  show 2 * (L 1).val + (L 0).val < 32
  omega

/-- Entry `y` of the tile's row, in the output. -/
def rowAt (y : S1024.Idx) : S32x1024.Idx := fun | 0 => ⟨wid L, wid_lt L⟩ | 1 => y 0

theorem oRow_emb (y : S1024.Idx) : (oRow L).view.emb y = rowAt L y := by
  show (Rect.unit (s := S32x1024) (k0_off13 L) S1x1024.size (k0_off13_inb L)).emb (Shape.reshapeEquiv squeezes_S1x1024_S1024.numel_eq y) = rowAt L y
  rw [show Shape.reshapeEquiv squeezes_S1x1024_S1024.numel_eq y = (fun | 0 => (0 : Fin 1) | 1 => y 0 : S1x1024.Idx) from
    Shape.reshapeEquiv_eq_of_rowMajor _ (by rw [Shape.rowMajor_val_two, Shape.rowMajor_val_one]; show 0 * 1024 + (y 0).val = (y 0).val; omega)]
  have e := k0_off13_eq L
  funext a
  match a with
  | 0 => exact Fin.ext (by show k0_off13 L 0 + 1 * 0 = 2 * (L 1).val + (L 0).val; rw [e]; rfl)
  | 1 => exact Fin.ext (by show k0_off13 L 1 + 1 * (y 0).val = (y 0).val; rw [e]; show 0 + 1 * (y 0).val = _; omega)

/-- The row after the copy out holds the accumulator. -/
theorem pts_oRow (fo : Buf (Elt F) ((oRow L).view.loc (thr d L))) (g : Vec F S1024 .f32) (hg : g = tileAcc X (wid L)) :
    ((oRow L).view.loc (thr d L) ↦[(oRow L).view.set]{fullShare} ((oRow L).view.writes (Elt F) fo [⟨Rect.whole S1024, g⟩]) : sProp 𝕄)
      = ((oRow L).view.loc (thr d L) ↦[(oRow L).view.set]{fullShare} rows X) := by
  refine pointsTo_congr fun i hi => ?_
  obtain ⟨y, -, rfl⟩ := Finset.mem_map.mp hi
  rw [View.writes_singleton]
  have h := View.write_emb_of_mem (Val := Elt F) (v := (oRow L).view.slice (Rect.whole S1024)) fo g (M := Finset.univ) (x := y) (Finset.mem_univ _)
  rw [show ((oRow L).view.slice (Rect.whole S1024)).emb y = (oRow L).view.emb y from congrArg (oRow L).view.emb (Rect.emb_whole_apply S1024 y)] at h
  refine h.trans ?_
  rw [hg, oRow_emb]
  show tileAcc X (wid L) y = tileAcc X (wid L) (fun | 0 => y 0)
  exact congrArg _ (funext fun | 0 => rfl)

theorem tile_run (q : PosShare TreeShare) (O : CellTallies nD τ sig (HIx 1)) (W : Waits sig (HIx 1)) (fo : Buf (Elt F) ((oRow L).view.loc (thr d L))) :
    iprop(□ Transfers.MayWaits (thr d L) (none : HIx 1) O ∗ arrs d L X q ∗ ((oRow L).view.loc (thr d L) ↦[(oRow L).view.set]{fullShare} fo)
        ∗ scratch d L ∗ sems d L ∗ owes (thr d L) O W)
      ⊢ wp frame (wpE (defs₀ (F := F)) 𝒱₀ (thr d L) none) Set.univ
          (cc0_sc_kern L cH (Memref.isWhole_whole _) bH (Memref.isWhole_whole _) sH (Memref.isWhole_whole _) aiH (Memref.isWhole_whole _)
            abH (Memref.isWhole_whole _) gH (Memref.isWhole_whole _) tH (Memref.isWhole_whole _) oH (Memref.isWhole_whole _)
            gW (Memref.isWhole_whole _) tW (Memref.isWhole_whole _) accW (Memref.isWhole_whole _) cW (Memref.isWhole_whole _)
            bW (Memref.isWhole_whole _) sW (Memref.isWhole_whole _) aiW (Memref.isWhole_whole _) abW (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18
            cc0_scoped19 cc0_scoped20 cc0_scoped21 cc0_scoped22 cc0_scoped23 cc0_scoped24 cc0_scoped25)
          fun _ => iprop(arrs d L X q ∗ ((oRow L).view.loc (thr d L) ↦[(oRow L).view.set]{fullShare} rows X)
            ∗ scratch d L ∗ sems d L ∗ ∃ W', ⌜∀ p ∈ W', p ∈ W ∨ p.2 = none⌝ ∗ owes (thr d L) O W') := by
  rw [cc0_sc_kern_eq_skeleton]; unfold cc0_sc_kern_skel
  iintro ⟨#Hmw, Harr, Ho, Hscr, Hsem, HO⟩
  rw [wp_bind]
  ihave H := (part1_wp d L X q O W) $$ [Harr Hscr Hsem HO]
  · isplitr; · iexact Hmw
    isplitl [Harr]; · iexact Harr
    isplitl [Hscr]; · iexact Hscr
    isplitl [Hsem]; · iexact Hsem
    iexact HO
  iapply (wp_wand frame (wpE (defs₀ (F := F)) 𝒱₀ (thr d L) none) Set.univ) $$ H
  iintro %r ⟨%fc, %fb, %fs, Hheld, %h1, Hrest⟩
  obtain ⟨v1, v3⟩ := r
  rw [wp_bind]
  ihave H := (part2_wp d L X q O W v3 h1.1 h1.2) $$ [Hheld Hrest]
  · isplitr; · iexact Hmw
    isplitl [Hheld]; · iexact Hheld
    iexact Hrest
  iapply (wp_wand frame (wpE (defs₀ (F := F)) 𝒱₀ (thr d L) none) Set.univ) $$ H
  iintro %_ ⟨%fc2, %fb2, %fs2, Hheld, %h2, Hrest⟩
  rw [wp_bind]
  ihave H := (part3_wp d L X q O W v3 h2.1 h2.2.1 h2.2.2) $$ [Hheld Hrest]
  · isplitr; · iexact Hmw
    isplitl [Hheld]; · iexact Hheld
    iexact Hrest
  iapply (wp_wand frame (wpE (defs₀ (F := F)) 𝒱₀ (thr d L) none) Set.univ) $$ H
  iintro %_ ⟨%fc3, %fb3, %fs3, ⟨Hg, Ha, Hc, Hb, Hs⟩, ⟨HC, HB, HS, HAI, HAB, HG, HT⟩, Ht, ⟨%fai, Hai⟩, ⟨%fab, Hab⟩, ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25⟩, %W', %hW', HO⟩
  rw [wp_bind, k0_part4_eq_skeleton]; unfold k0_part4_skel
  sl_exec (disch := exact View.amount_pos _ _ (show 0 < S848.numel by decide))
  iapply (loopC_wp d L X (holds_c9 L X _) (holds_b9 L X _) (holds_s9 L X _) k0_t8_loop k0_t8_ok (by decide) (off := k0_off10)
    (fun k => by rw [k0_off10_eq]; rfl) k0_off10_inb _ (fun _ _ => rfl))
  isplitl [Hg Ha Hc Hb Hs]
  · isplitl [Hg]; · iexact Hg
    isplitl [Ha]; · iexact Ha
    isplitl [Hc]; · iexact Hc
    isplitl [Hb]; · iexact Hb
    iexact Hs
  iintro ⟨Hg, Ha, Hc, Hb, Hs⟩
  sl_exec (disch := exact View.amount_pos _ _ (show 0 < S3136.numel by decide))
  iapply (loopA_wp d L X (holds_ai L X _) (holds_ab L X _) k0_t9_loop k0_t9_ok (by decide) (off := k0_off12)
    (fun k => by rw [k0_off12_eq]; rfl) k0_off12_inb _ (fun _ _ => rfl))
  isplitl [Ht Ha Hai Hab]
  · isplitl [Ht]; · iexact Ht
    isplitl [Ha]; · iexact Ha
    isplitl [Hai]; · iexact Hai
    iexact Hab
  iintro ⟨Ht, Ha, Hai, Hab⟩
  ihave Ha := (Entails.of_eq (congrArg (fun g => (accW.view.loc (thr d L) ↦{fullShare} g : sProp 𝕄)) (tileAcc_eq L X))) $$ Ha
  sl_exec (disch := exact View.amount_pos _ _ (show 0 < S1024.numel by decide))
  sl_step
  isplitl [HC HB HS HAI HAB HG HT]; · iclose
  ihave Ho := (Entails.of_eq (pts_oRow d L X fo (tile_run.sl.dma0_5 L X) rfl)) $$ Ho
  isplitl [Ho]; · iexact Ho
  isplitl [Hg Ht Ha Hc Hb Hs Hai Hab]; · iclose
  isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25]; · iclose
  iowes_recorded HO

end Cert.Proof.Sc

end
-- ==== Proof.ScLaunch.lean ====
/-
  The launch's payloads and obligations: how the arrays are dealt to the thirty-two tiles (read shares of the seven inputs,
  one row each of the output) and gathered back with every row written.
-/
module

public import proofs.«01_k».proof.Proof.ScTile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Transfers (dealShare dealOf pointsTo_deal)

variable {F : FTy → Type} [FloatOps F]

local notation "𝕄" => MT nD τ sig (HIx 1) (Elt F) ℕ UU ℕ

/-! ## A few members of a big conjunction, named -/

/-- The conjunction of `Φ` over a nonempty list. -/
def seps {I : Type} (Φ : I → sProp 𝕄) : I → List I → sProp 𝕄
  | a, [] => Φ a
  | a, b :: l => iprop(Φ a ∗ seps Φ b l)

omit [FloatOps F] in
theorem bigSep_seps {I : Type} [DecidableEq I] (Φ : I → sProp 𝕄) (l : List I) : ∀ (a : I) (s : Finset I), (a :: l).Nodup → (∀ b ∈ a :: l, b ∈ s) →
    bigSep s Φ = iprop(seps Φ a l ∗ bigSep (s \ (a :: l).toFinset) Φ) := by
  induction l with
  | nil =>
    intro a s _ hs
    rw [SparseCore.bigSep_erase' (hs a List.mem_cons_self), show s \ ([a] : List I).toFinset = s.erase a by ext x; simp [and_comm]]
    rfl
  | cons b l ih =>
    intro a s hn hs
    rw [SparseCore.bigSep_erase' (hs a List.mem_cons_self), ih b (s.erase a) (List.nodup_cons.mp hn).2 (fun x hx => Finset.mem_erase.mpr
      ⟨fun e => (List.nodup_cons.mp hn).1 (e ▸ hx), hs x (List.mem_cons_of_mem _ hx)⟩),
      show s.erase a \ (b :: l).toFinset = s \ (a :: b :: l).toFinset by ext x; simp; tauto]
    refine Entails.antisymm ?_ ?_
    · show iprop(Φ a ∗ seps Φ b l ∗ bigSep (s \ (a :: b :: l).toFinset) Φ) ⊢ iprop((Φ a ∗ seps Φ b l) ∗ bigSep (s \ (a :: b :: l).toFinset) Φ)
      iintro ⟨H1, H2, H3⟩
      isplitl [H1 H2]
      · isplitl [H1] <;> iassumption
      iexact H3
    · show iprop((Φ a ∗ seps Φ b l) ∗ bigSep (s \ (a :: b :: l).toFinset) Φ) ⊢ iprop(Φ a ∗ seps Φ b l ∗ bigSep (s \ (a :: b :: l).toFinset) Φ)
      iintro ⟨⟨H1, H2⟩, H3⟩
      isplitl [H1]; · iexact H1
      isplitl [H2] <;> iassumption

section Own

variable (d : Dev nD) (L : grid0.Coords)

/-- The kernel's copy cells, and its scratch. -/
abbrev semList : List (DmaSems sig S_) := [cc0_scoped1, cc0_scoped2, cc0_scoped3, cc0_scoped4, cc0_scoped5, cc0_scoped6, cc0_scoped7, cc0_scoped8, cc0_scoped9, cc0_scoped10, cc0_scoped11, cc0_scoped12, cc0_scoped13, cc0_scoped14, cc0_scoped15, cc0_scoped16, cc0_scoped17, cc0_scoped18, cc0_scoped19, cc0_scoped20, cc0_scoped21, cc0_scoped22, cc0_scoped23, cc0_scoped24, cc0_scoped25]
abbrev refList : List (Ref sig .scVector) := [cc0_scratch1, cc0_scratch2, cc0_scratch3, cc0_scratch4, cc0_scratch5, cc0_scratch6, cc0_scratch7]

omit [FloatOps F] in
theorem ownSems0_V : (ownSems0 (thr d L) : sProp 𝕄)
    = iprop(sems d L ∗ bigSep (ownCells (thr d L) \ (cell d L cc0_scoped0 :: semList.map (cell d L)).toFinset) fun g => semVal g 0) := by
  unfold SparseCore.Cfg.ownSems0
  refine (bigSep_seps (F := F) (fun g => semVal g 0) (semList.map (cell d L)) (cell d L cc0_scoped0) (ownCells (thr d L)) ?_ ?_).trans ?_
  · have h : ((cc0_scoped0 :: semList).map fun s => (SemLoc.dma s.sem : SemLoc sig)).Nodup := by decide
    have h2 := h.map (f := fun s : SemLoc sig => ((thr d L, s) : GSem nD τ sig)) fun a b e => (Prod.mk.inj e).2
    rwa [List.map_map] at h2
  · have h : ∀ s ∈ cc0_scoped0 :: semList, (SemLoc.dma s.sem : SemLoc sig).isScoped .scVector = true := by decide
    intro g hg
    obtain ⟨s, hs, rfl⟩ := List.mem_map.mp (show g ∈ (cc0_scoped0 :: semList).map (cell d L) from hg)
    exact mem_ownCells.mpr ⟨rfl, h s hs⟩
  · rfl

/-- The scratch's places on the tile. -/
abbrev refAt (r : Ref sig .scVector) : DevRef τ sig := (thr d L).2.devRef r

omit [FloatOps F] in
theorem ownBufs_V : (ownBufs (thr d L) : sProp 𝕄)
    = iprop(scratch d L ∗ bigSep (ownRefs (thr d L).2 \ (refAt d L cc0_scratch0 :: refList.map (refAt d L)).toFinset)
        fun b => iprop(∃ f, ((d, b) : Loc nD τ sig) ↦{fullShare} f)) := by
  unfold SparseCore.Cfg.ownBufs
  refine (bigSep_seps (F := F) (fun b => iprop(∃ f, ((d, b) : Loc nD τ sig) ↦{fullShare} f)) (refList.map (refAt d L)) (refAt d L cc0_scratch0)
    (ownRefs (thr d L).2) ?_ ?_).trans ?_
  · have h : (cc0_scratch0 :: refList).Nodup := by decide
    exact h.map (f := refAt d L) (Proc.devRef_injective (thr d L).2)
  · have h : ∀ r ∈ cc0_scratch0 :: refList, (refAt d L r).owner = .proc (.scVector (cV L) (jV L)) := by
      intro r hr
      simp only [List.mem_cons, List.not_mem_nil, _root_.or_false] at hr
      rcases hr with rfl | rfl | rfl | rfl | rfl | rfl | rfl | rfl <;> rfl
    intro g hg
    obtain ⟨r, hr, rfl⟩ := List.mem_map.mp (show g ∈ (cc0_scratch0 :: refList).map (refAt d L) from hg)
    exact mem_ownRefs_of_owner (h r hr)
  · rfl

end Own

/-! ## The arrays, as @main holds them -/

section Arrays

variable (d : Dev nD)

abbrev loc (r : Ref sig .tc) : Loc nD τ sig := (SparseCore.T d).loc r

/-- The seven arrays the tiles read, at share `q`. -/
def arrsT (X : Inputs F) (q : PosShare TreeShare) : sProp 𝕄 :=
  iprop((loc d main_arg1 ↦{q} X.C) ∗ (loc d main_arg2 ↦{q} X.B) ∗ (loc d main_arg4 ↦{q} X.S)
    ∗ (loc d main_v1 ↦{q} X.AI) ∗ (loc d main_v3 ↦{q} X.AB) ∗ (loc d main_arg6 ↦{q} X.G) ∗ (loc d main_v5 ↦{q} X.T))

theorem pts_deal {ℓ : Loc nD τ sig} {I : Finset (Idx ℓ)} {f : Buf (Elt F) ℓ} (q : PosShare TreeShare) (n : ℕ) :
    (ℓ ↦[I]{q} f : sProp 𝕄) = bigSep (Finset.univ : Finset (Fin (n + 1))) fun i => ℓ ↦[I]{dealShare q (n + 1) i.val} f := by
  rw [pointsTo_deal (Finset.univ : Finset (Fin (n + 1))) ⟨0, Finset.mem_univ _⟩ q]
  refine bigSep_congr fun i _ => ?_
  unfold dealOf
  rw [Finset.card_univ, Fintype.card_fin, Finset.filter_gt_eq_Iio, Fin.card_Iio]

theorem arrsT_deal (X : Inputs F) (q : PosShare TreeShare) (n : ℕ) :
    arrsT d X q = bigSep (Finset.univ : Finset (Fin (n + 1))) fun i => arrsT d X (dealShare q (n + 1) i.val) := by
  unfold arrsT
  rw [bigSep_sep', bigSep_sep', bigSep_sep', bigSep_sep', bigSep_sep', bigSep_sep', ← pts_deal, ← pts_deal, ← pts_deal, ← pts_deal,
    ← pts_deal, ← pts_deal, ← pts_deal]

/-- Row `w` of the output, the rows of one SparseCore. -/
def rowSet (w : ℕ) : Finset S32x1024.Idx := Finset.univ.filter fun j => (j 0).val = w
def coreSet (c : ℕ) : Finset S32x1024.Idx := (Finset.univ : Finset (Fin 16)).biUnion fun i => rowSet (2 * i.val + c)

theorem rowSet_disjoint {w w' : ℕ} (h : w ≠ w') : Disjoint (rowSet w) (rowSet w') :=
  Finset.disjoint_left.mpr fun _ h1 h2 => h ((Finset.mem_filter.mp h1).2.symm.trans (Finset.mem_filter.mp h2).2)

theorem mem_coreSet {c : ℕ} (hc : c < 2) {j : S32x1024.Idx} : j ∈ coreSet c ↔ (j 0).val % 2 = c := by
  have hj : (j 0).val < 32 := (j 0).isLt
  unfold coreSet rowSet
  simp only [Finset.mem_biUnion, Finset.mem_filter, Finset.mem_univ, true_and]
  exact ⟨fun ⟨i, hi⟩ => by omega, fun h => ⟨⟨(j 0).val / 2, by omega⟩, by show (j 0).val = 2 * ((j 0).val / 2) + c; omega⟩⟩

theorem out_cores (f : Buf (Elt F) (loc d main_v6)) :
    (loc d main_v6 ↦{fullShare} f : sProp 𝕄) = bigSep (Finset.univ : Finset (Fin 2)) fun c => loc d main_v6 ↦[coreSet c.val]{fullShare} f := by
  refine Eq.trans ?_ (pointsTo_biUnion (ℓ := loc d main_v6) (q := fullShare) (f := f) (Finset.univ : Finset (Fin 2)) (fun c => coreSet c.val)
    (fun c _ c' _ h => Finset.disjoint_left.mpr fun j h1 h2 => h (Fin.ext
      (((mem_coreSet c.isLt).mp h1).symm.trans ((mem_coreSet c'.isLt).mp h2)))))
  have e : (Finset.univ : Finset (Fin 2)).biUnion (fun c => coreSet c.val) = (Finset.univ : Finset S32x1024.Idx) :=
    Finset.eq_univ_of_forall fun j => Finset.mem_biUnion.mpr ⟨⟨(j 0).val % 2, Nat.mod_lt _ (by decide)⟩, Finset.mem_univ _,
      (mem_coreSet (Nat.mod_lt _ (by decide))).mpr rfl⟩
  exact congrArg (fun I : Finset (Idx (loc d main_v6)) => (loc d main_v6 ↦[I]{fullShare} f : sProp 𝕄)) e.symm

theorem out_rows (c : ℕ) (f : Buf (Elt F) (loc d main_v6)) :
    (loc d main_v6 ↦[coreSet c]{fullShare} f : sProp 𝕄)
      = bigSep (Finset.univ : Finset (Fin 16)) fun i => loc d main_v6 ↦[rowSet (2 * i.val + c)]{fullShare} f :=
  pointsTo_biUnion (ℓ := loc d main_v6) (q := fullShare) (f := f) (Finset.univ : Finset (Fin 16)) (fun i => rowSet (2 * i.val + c))
    fun i _ i' _ h => rowSet_disjoint fun e => h (Fin.ext (by omega))

theorem oRow_set (L : grid0.Coords) : (oRow L).view.set = rowSet (wid L) := by
  ext j
  constructor
  · intro hj
    obtain ⟨y, -, rfl⟩ := Finset.mem_map.mp hj
    rw [oRow_emb]
    exact Finset.mem_filter.mpr ⟨Finset.mem_univ _, rfl⟩
  · intro hj
    have e : (j 0).val = wid L := (Finset.mem_filter.mp hj).2
    refine Finset.mem_map.mpr ⟨fun | 0 => j 1, Finset.mem_univ _, ?_⟩
    rw [oRow_emb]
    funext a
    match a with
    | 0 => exact Fin.ext e.symm
    | 1 => rfl

end Arrays

/-! ## The payloads -/

variable (X : Dev nD → Inputs F) (fo : (d : Dev nD) → Buf (Elt F) (loc d main_v6))

/-- The share of the inputs one SparseCore is handed, and one of its tiles. -/
abbrev qC (c : ℕ) : PosShare TreeShare := dealShare fullShare 2 c
abbrev qT (c i : ℕ) : PosShare TreeShare := dealShare (qC c) 16 i

/-- Call 0's payloads: to a SparseCore its share of the inputs and its rows, to a tile a share of that and its row; each
    comes back with the rows written. -/
def P : (K (F := F)).Pay (nD := nD) (Val := Elt F) (Name := ℕ) (U := UU) where
  st := fun _ d c => iprop(arrsT d (X d) (qC c.val) ∗ loc d main_v6 ↦[coreSet c.val]{fullShare} fo d)
  dn := fun _ d c => iprop(arrsT d (X d) (qC c.val) ∗ loc d main_v6 ↦[coreSet c.val]{fullShare} rows (X d))
  go := fun _ d c i => iprop(arrsT d (X d) (qT c.val i.val) ∗ loc d main_v6 ↦[rowSet (2 * i.val + c.val)]{fullShare} fo d)
  td := fun _ d c i => iprop(arrsT d (X d) (qT c.val i.val) ∗ loc d main_v6 ↦[rowSet (2 * i.val + c.val)]{fullShare} rows (X d))
  x := fun _ _ => iprop(emp)

instance P_storable : (P X fo).IsStorable where
  st _ d c := by unfold P arrsT; infer_instance
  dn _ d c := by unfold P arrsT; infer_instance
  go _ _ _ _ := by unfold P arrsT; infer_instance
  td _ _ _ _ := by unfold P arrsT; infer_instance

theorem core_split (d : Dev nD) (c : ℕ) (f : Buf (Elt F) (loc d main_v6)) :
    iprop(arrsT d (X d) (qC c) ∗ loc d main_v6 ↦[coreSet c]{fullShare} f)
      = bigSep (Finset.univ : Finset (Fin 16)) fun i => iprop(arrsT d (X d) (qT c i.val) ∗ loc d main_v6 ↦[rowSet (2 * i.val + c)]{fullShare} f) := by
  rw [bigSep_sep', ← arrsT_deal d (X d) (qC c) 15, ← out_rows d c f]

theorem all_split (d : Dev nD) (f : Buf (Elt F) (loc d main_v6)) :
    iprop(arrsT d (X d) fullShare ∗ loc d main_v6 ↦{fullShare} f)
      = bigSep (Finset.univ : Finset (Fin 2)) fun c => iprop(arrsT d (X d) (qC c.val) ∗ loc d main_v6 ↦[coreSet c.val]{fullShare} f) := by
  rw [bigSep_sep', ← arrsT_deal d (X d) fullShare 1, ← out_cores d f]

theorem vecSplit : (K (F := F)).VecSplit' (P X fo) 0 := by
  intro d c
  show iprop(arrsT d (X d) (qC c.val) ∗ loc d main_v6 ↦[coreSet c.val]{fullShare} fo d) ⊢ |={Set.univ}=> iprop(
    (bigSep (Finset.univ : Finset (Fin 16)) fun i => iprop(arrsT d (X d) (qT c.val i.val) ∗ loc d main_v6 ↦[rowSet (2 * i.val + c.val)]{fullShare} fo d))
    ∗ ((bigSep (Finset.univ : Finset (Fin 16)) fun i => iprop(arrsT d (X d) (qT c.val i.val) ∗ loc d main_v6 ↦[rowSet (2 * i.val + c.val)]{fullShare} rows (X d)))
      -∗ iprop(arrsT d (X d) (qC c.val) ∗ loc d main_v6 ↦[coreSet c.val]{fullShare} rows (X d))))
  rw [← core_split X d c.val, ← core_split X d c.val]
  iintro H; imodintro
  isplitl [H]; · iexact H
  iintro H; iexact H

/-! ## A tile's obligation -/

theorem tile_body (d : Dev nD) (L : grid0.Coords) (O : CellTallies nD τ sig (HIx 1)) (W : Waits sig (HIx 1)) (hO : ∀ g, O g none = 0) :
    iprop(levAts (K (F := F)).L (K (F := F)).lev ∗ emp
        ∗ iprop(arrsT d (X d) (qT (L 0).val (L 1).val) ∗ loc d main_v6 ↦[rowSet (2 * (L 1).val + (L 0).val)]{fullShare} fo d)
        ∗ scopedBufs (thr d L) ∗ scopedSems0 (thr d L) ∗ owes (thr d L) O W)
      ⊢ wp frame (wpE (defs₀ (F := F)) 𝒱₀ (thr d L) none) Set.univ
          (cc0_sc_kern L cH (Memref.isWhole_whole _) bH (Memref.isWhole_whole _) sH (Memref.isWhole_whole _) aiH (Memref.isWhole_whole _)
            abH (Memref.isWhole_whole _) gH (Memref.isWhole_whole _) tH (Memref.isWhole_whole _) oH (Memref.isWhole_whole _)
            gW (Memref.isWhole_whole _) tW (Memref.isWhole_whole _) accW (Memref.isWhole_whole _) cW (Memref.isWhole_whole _)
            bW (Memref.isWhole_whole _) sW (Memref.isWhole_whole _) aiW (Memref.isWhole_whole _) abW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25)
          fun _ => iprop(iprop(arrsT d (X d) (qT (L 0).val (L 1).val) ∗ loc d main_v6 ↦[rowSet (2 * (L 1).val + (L 0).val)]{fullShare} rows (X d))
            ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  have hout (f : Buf (Elt F) (loc d main_v6)) : (loc d main_v6 ↦[rowSet (2 * (L 1).val + (L 0).val)]{fullShare} f : sProp 𝕄)
      = ((oRow L).view.loc (thr d L) ↦[(oRow L).view.set]{fullShare} f) := by rw [oRow_set]
  have harr : arrsT d (X d) (qT (L 0).val (L 1).val) = arrs d L (X d) (qT (L 0).val (L 1).val) := rfl
  rw [hout, hout, harr]
  iintro ⟨#Hlv, -, ⟨Harr, Ho⟩, ⟨Hb, Hbr⟩, ⟨Hs, Hsr⟩, HO⟩
  ihave #Hmw := ((K (F := F)).mayWaits_none (thr := thr d L) hO) $$ Hlv
  ihave H := (tile_run d L (X d) (qT (L 0).val (L 1).val) O W (fo d)) $$ [Harr Ho Hb Hs HO]
  · isplitr; · iexact Hmw
    isplitl [Harr]; · iexact Harr
    isplitl [Ho]; · iexact Ho
    isplitl [Hb]; · iexact Hb
    isplitl [Hs] <;> iassumption
  iapply (wp_wand frame (wpE (defs₀ (F := F)) 𝒱₀ (thr d L) none) Set.univ) $$ H
  iintro %_ ⟨Harr, Ho, Hb, Hs, HO⟩
  isplitl [Harr Ho]
  · isplitl [Harr]; · iexact Harr
    iexact Ho
  isplitl [Hb Hbr]
  · isplitl [Hb] <;> iassumption
  isplitl [Hs Hsr]
  · isplitl [Hs] <;> iassumption
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kern (coordsV c s)
            cH (Memref.isWhole_whole _) bH (Memref.isWhole_whole _) sH (Memref.isWhole_whole _) aiH (Memref.isWhole_whole _)
            abH (Memref.isWhole_whole _) gH (Memref.isWhole_whole _) tH (Memref.isWhole_whole _) oH (Memref.isWhole_whole _)
            gW (Memref.isWhole_whole _) tW (Memref.isWhole_whole _) accW (Memref.isWhole_whole _) cW (Memref.isWhole_whole _)
            bW (Memref.isWhole_whole _) sW (Memref.isWhole_whole _) aiW (Memref.isWhole_whole _) abW (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl : (K (F := F)).TileObl (D (F := F)) 𝒱 (P X fo) v₀ 0 := by
  intro d c i O W hO _ _
  simp only [show (P X fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X fo d (coordsV ⟨_, hc.1⟩ ⟨_, hc.2⟩) O W hO).trans (wp_mono frame _ _ fun _ => obl_post)

end Cert.Proof.Sc

end
-- ==== Proof.ScRegion.lean ====
/-
  The TensorCore's kernel (one point, two whole-array windows): its body run over the staging buffers, its proof data, and the
  region as a step of @main from "every unscoped array at `V`" to the same with the result array at the payload of the input.
-/
module

public import proofs.«01_k».proof.Proof.ScSetup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

@[expose] public section

noncomputable section

namespace Cert.Proof.Sc

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- The two staging buffers, whole. -/
abbrev inPts (c : Dev nD) (f : Vec F S32x1024 .f32) : sProp 𝕄 := (stage1_0 0).view.loc (c : Thread nD τ) ↦{fullShare} f
abbrev outPts (c : Dev nD) (f : Vec F S1x1024 .f32) : sProp 𝕄 := (stage1_1 0).view.loc (c : Thread nD τ) ↦{fullShare} f

theorem in_read (f : Vec F S32x1024 .f32) : View.readAt (Elt F) (stage1_0 0).view (Rect.unit (s := S32x1024) ![0, 0] S32x1024.size inb_S32x1024_S32x1024_0_0).toLoadRect f = f :=
  Memref.readAt_unit_zero (Elt F) (cc1_stg0_0 : Ref sig .tc) (by decide) _ f

theorem out_writes (f g : Vec F S1x1024 .f32) :
    (Memref.whole (cc1_stg1_0 : Ref sig .tc)).view.writes (Elt F) f [⟨Rect.unit (s := S1x1024) ![0, 0] S1x1024.size inb_S1x1024_S1x1024_0_0, g⟩] = g := by
  rw [View.writes_singleton]
  exact Memref.write_access_unit_zero_univ (Elt F) (cc1_stg1_0 : Ref sig .tc) (by decide) _ f g

/-- The body on its staging buffers: the result's is left at the payload of the input's. -/
theorem combine_run (c : Dev nD) (f0 : Vec F S32x1024 .f32) (f1 : Vec F S1x1024 .f32) :
    iprop(inPts c f0 ∗ outPts c f1)
      ⊢ wp frame (wpE (defs₀ (F := F)) 𝒱₀ (c : Thread nD τ) none) Set.univ (cc1__combine_body (stage1_0 0) (hstage1_0 0) (stage1_1 0) (hstage1_1 0))
          fun _ => iprop(inPts c f0 ∗ outPts c (k1_pay1 f0)) := by
  rw [cc1__combine_body_eq_skeleton]; unfold cc1__combine_body_skel
  iintro ⟨H0, H1⟩
  sl_exec
  sl_step
  isplitl [H0]; · iexact H0
  rw [in_read]
  ihave H1 := (Entails.of_eq (congrArg (fun h : Vec F S1x1024 .f32 => outPts c h) (out_writes f1 (k1_pay1 f0)))) $$ H1
  iexact H1

/-! ## The proof data, at an entry valuation -/

section Region

variable (V : (c : Dev nD) → (b : Ref sig .tc) → Buf (Elt F) ((c : Thread nD τ).loc b))

/-- The input's block as the fetch stages it. -/
abbrev stg (c : Dev nD) : (cfg1.win 0).block.Idx → Elt F (cfg1.win 0).elt :=
  ((cfg1.win 0).blk t1_0).view.read (Elt F) (V c main_v6)

abbrev Φc (c : Dev nD) : sProp 𝕄 := Pipeline.scopedRest (Ix := HIx 1) (Name := ℕ) (U := UU) (Lvl := ℕ) (Val := Elt F) spec1 c

/-- The proof data: the two arrays at `V`; after the body the input's buffer as fetched and the result's at the payload;
    nothing owed; full shares. -/
def dat (c : Dev nD) : Dat τ (Elt F) (HIx 1) ℕ UU ℕ cfg1 c where
  A w := V c (Pipeline.arrRef spec1 w)
  after w _ := match w with
    | ⟨0, _⟩ => stg V c
    | ⟨1, _⟩ => k1_pay1 (F := F) (stg V c)
  Φ _ := Φc c
  q _ := fullShare
  owed _ := 0

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_in (c : Dev nD) (d : (cfg1.win 0).block.Idx → Elt F (cfg1.win 0).elt) : (dat V c).before 0 t1_0 d = stg V c := by
  unfold Dat.before; rw [if_pos (by decide)]; rfl

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, -, H1⟩⟩
  rw [before_in] at hf0
  subst hf0
  ihave H := (combine_run (F := F) c (stg V c) f1) $$ [H0 H1]
  · isplitl [H0]; · iexact H0
    iexact H1
  iapply (wp_wand frame (wpE (defs₀ (F := F)) 𝒱₀ (c : Thread nD τ) none) Set.univ) $$ H
  iintro %_ ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-! ## The region over the thread state -/

/-- The result array after the region, as the library computes it: the write-back of the body's buffer. -/
def combined (c : Dev nD) : Buf (Elt F) ((c : Thread nD τ).loc main_v7) := (dat V c).arrAt 1 cfg1.N

variable (Vp : (c : Dev nD) → (b : Ref sig .tc) → Buf (Elt F) ((c : Thread nD τ).loc b))

-- `iapply` of a launch lemma stated over `pin pcs a p` at the pinned configuration unifies only when unification may
-- unfold plain definitions in a metavariable's type
set_option backward.isDefEq.respectTransparency.types false in
/-- The region: from every unscoped array at `V`, `R` and nothing owed, to the same with the result array's contents
    replaced. The two arrays are split out at entry and put back at exit; the rest goes around. -/
def reg (R : Dev nD → sProp 𝕄) (hout : ∀ c, Vp c main_v7 = combined V c) (hne : ∀ c (b : Ref sig .tc), b ≠ main_v7 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop((unscopedBufs c (V c) ∗ R c) ∗ ∃ W, owes (c : Thread nD τ) (0 : CellTallies nD τ sig (HIx 1)) W)
  post c := iprop((unscopedBufs c (Vp c) ∗ R c) ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    have hsplit := Pipeline.arrays_of_unscopedBufs (p := 0) (pcfgs (F := F)) adm (pdats V) launch1.win launch1.arr_whole c
      ((pdats V 0 c).share_full fun _ => rfl) (V c) fun _ => rfl
    rw [Pipeline.ownSems0_none]
    iintro ⟨⟨⟨Hub, HR⟩, ⟨%W, HO⟩⟩, -, -⟩
    ihave ⟨Ha, Hrest⟩ := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr; · ipureintro; exact fun _ _ => Or.inl trivial
      iexact HO
    isplitr; · iempintro
    isplitl [Hrest]; · iexact Hrest
    iexact HR
  hin c := by
    rw [show (pdats V 0 c).Φ 0 = Φc c from rfl]
    iintro ⟨-, -, H⟩; iexact H
  hout c := by
    rw [Pipeline.ownSems0_none, show (pdats V 0 c).Φ (Fin.last _) = Φc c from rfl]
    iintro H
    isplitr; · iempintro
    isplitr; · iempintro
    iexact H
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v6 (by decide)).symm
        · exact (hout c).symm)
      (fun b hb => hne c b fun h => hb (h ▸ Finset.mem_image.mpr ⟨1, Finset.mem_univ _, rfl⟩))
    unfold Pipeline.Dat.owesAt Pipeline.owesWithin
    iintro ⟨Ha, ⟨%W, -, HO⟩, -, Hrest, HR⟩
    imodintro
    isplitl [Ha Hrest HR]
    · isplitl [Ha Hrest]; · iapply hjoin; isplitl [Ha] <;> iassumption
      iexact HR
    iexists W; iexact HO

/-- The block of either window is the whole array: reading it reads the array. -/
theorem read_in (f : Vec F S32x1024 .f32) : ((cfg1.win 0).blk t1_0).view.read (Elt F) f = f :=
  Memref.read_access_unit_zero (Elt F) main_v6 (off := fun a => win1_0.index t1_0 a * main_v6.ty.shape.size a)
    (funext fun a => by fin_cases a <;> decide) (fun a => by fin_cases a <;> decide) f

theorem read_out (f : Vec F S1x1024 .f32) : ((cfg1.win 1).blk t1_0).view.read (Elt F) f = f :=
  Memref.read_access_unit_zero (Elt F) main_v7 (off := fun a => win1_1.index t1_0 a * main_v7.ty.shape.size a)
    (funext fun a => by fin_cases a <;> decide) (fun a => by fin_cases a <;> decide) f

/-- The result array ends at the payload of the input array. -/
theorem combined_eq (c : Dev nD) : combined V c = (k1_pay1 (F := F) (V c main_v6) : Vec F S1x1024 .f32) := by
  have hw : ((cfg1.win 1).blk t1_0).view.read (Elt F) ((dat V c).arrAt 1 cfg1.N) = (dat V c).flushed 1 t1_0 := by
    rw [show cfg1.N = t1_0.val + 1 from N_1, (dat V c).arrAt_succ (1 : Fin 2) t1_0, flush1_1, if_pos rfl]
    exact View.read_write_univ _ _
  have hf : (dat V c).flushed 1 t1_0 = k1_pay1 (F := F) (stg V c) := by
    show (cfg1.win 1).cut _ ((dat V c).after 1 t1_0) = _
    exact funext fun _ => rfl
  exact ((read_out _).symm.trans (hw.trans hf)).trans (congrArg _ (read_in _))

end Region

end Cert.Proof.Sc
end
-- ==== Proof.ScMain.lean ====
/-
  @main on the TensorCore and the whole program's run: the host operations that pad the arrays, the SparseCore call, the
  TensorCore's kernel, the reshape; every array at its final contents, which for the result is a function of the launch's.
-/
module

public import proofs.«01_k».proof.Proof.ScLaunch
public import proofs.«01_k».proof.Proof.ScRegion

@[expose] public section

noncomputable section

namespace Cert.Proof.Sc

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig (HIx 1) (Elt F) ℕ UU ℕ

/-! ## The arrays at a valuation -/

/-- The TensorCore's arrays outside any scope. -/
def ucRefs : Finset (DevRef τ sig) := (StableHlo.tcRefs τ sig).filter fun b => ¬ b.isScoped

omit [FloatOps F] in
theorem unscoped_held (d : Dev nD) (W : Valuation τ sig (Elt F)) :
    (unscopedBufs d (fun b => W (Proc.devRef .tc b)) : sProp 𝕄) = held (SparseCore.T d) ucRefs W := by
  unfold unscopedBufs held ucRefs StableHlo.tcRefs
  rw [Finset.filter_map, bigSep_map]
  rfl

abbrev dr (r : Ref sig .tc) : DevRef τ sig := Proc.devRef .tc r

/-- The arrays the SparseCore call is given. -/
abbrev callRefs : List (DevRef τ sig) := [dr main_arg2, dr main_arg4, dr main_v1, dr main_v3, dr main_arg6, dr main_v5, dr main_v6]

/-- The valuation has the seven arrays the call reads at the given inputs. -/
structure Fits (X : Inputs F) (W : Valuation τ sig (Elt F)) : Prop where
  c : W (dr main_arg1) = X.C
  b : W (dr main_arg2) = X.B
  s : W (dr main_arg4) = X.S
  ai : W (dr main_v1) = X.AI
  ab : W (dr main_v3) = X.AB
  g : W (dr main_arg6) = X.G
  t : W (dr main_v5) = X.T

omit [FloatOps F] in
theorem ucRefs_mem (r : Ref sig .tc) (h : r.isScoped = false) : dr r ∈ ucRefs :=
  Finset.mem_filter.mpr ⟨StableHlo.devRef_mem_tcRefs r, by simpa using h⟩

omit [FloatOps F] in
theorem sep_right (A B C : sProp 𝕄) : iprop((A ∗ B) ∗ C) = iprop(A ∗ B ∗ C) := by
  refine Entails.antisymm ?_ ?_
  · show iprop((A ∗ B) ∗ C) ⊢ iprop(A ∗ B ∗ C)
    iintro ⟨⟨HA, HB⟩, HC⟩
    isplitl [HA]; · iexact HA
    isplitl [HB] <;> iassumption
  · show iprop(A ∗ B ∗ C) ⊢ iprop((A ∗ B) ∗ C)
    iintro ⟨HA, HB, HC⟩
    isplitr [HC]
    · isplitl [HA] <;> iassumption
    iexact HC

omit [FloatOps F] in
theorem call_split (d : Dev nD) (X : Inputs F) (W : Valuation τ sig (Elt F)) (h : Fits X W) :
    (held (SparseCore.T d) ucRefs W : sProp 𝕄)
      = iprop((arrsT d X fullShare ∗ loc d main_v6 ↦{fullShare} W (dr main_v6))
          ∗ held (SparseCore.T d) (ucRefs \ (dr main_arg1 :: callRefs).toFinset) W) := by
  unfold held arrsT
  rw [bigSep_seps (F := F) _ callRefs (dr main_arg1) ucRefs (by decide) (by decide), ← h.c, ← h.b, ← h.s, ← h.ai, ← h.ab, ← h.g, ← h.t]
  simp only [seps, sep_right]

/-! ## The valuations -/

variable (m : (ℓ : Loc nD τ sig) → Buf (Elt F) ℓ) (ρ : Dev nD → PrngReg) (X : Dev nD → Inputs F)

/-- The host operations before the call. -/
def padOps : List (HloOp τ sig (Elt F)) :=
  [StableHlo.nullary main_c (constantI S_ 32 8#32),
   StableHlo.unary main_c main_v0 (broadcastInDim S352 ![] bcast_S_S352 : (⟨S_, .i32⟩ : BufTy).Contents (Elt F) → (⟨S352, .i32⟩ : BufTy).Contents (Elt F)),
   StableHlo.binary main_arg0 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
   StableHlo.nullary main_c_0 (constantI S_ 32 0#32),
   StableHlo.unary main_c_0 main_v2 (broadcastInDim S352 ![] bcast_S_S352 : (⟨S_, .i32⟩ : BufTy).Contents (Elt F) → (⟨S352, .i32⟩ : BufTy).Contents (Elt F)),
   StableHlo.binary main_arg3 main_v2 main_v3 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
   StableHlo.nullary main_cst (constant S_ .f32 0x00000000#32),
   StableHlo.unary main_cst main_v4 (broadcastInDim S8 ![] bcast_S_S8 : (⟨S_, .f32⟩ : BufTy).Contents (Elt F) → (⟨S8, .f32⟩ : BufTy).Contents (Elt F)),
   StableHlo.binary main_arg5 main_v4 main_v5 ((fun a b => concatenate S16 0 [⟨S8, a⟩, ⟨S8, b⟩] concatenates_S8_S8_S16_d0) : (⟨S8, .f32⟩ : BufTy).Contents (Elt F) → (⟨S8, .f32⟩ : BufTy).Contents (Elt F) → (⟨S16, .f32⟩ : BufTy).Contents (Elt F))]

abbrev flatOp : HloOp τ sig (Elt F) := StableHlo.reshape main_v7 main_v8 (rfl : (.f32 : EltTy) = .f32) shapeCasts_S1x1024_S1024

/-- At the launch; after the host operations; after the call; after the TensorCore's kernel; at the return. -/
def Vₗ (d : Dev nD) : Valuation τ sig (Elt F) := fun b => m (d, b)
def Vₚ (d : Dev nD) : Valuation τ sig (Elt F) := StableHlo.after padOps (Vₗ m d)
def Vₛ (d : Dev nD) : Valuation τ sig (Elt F) := Function.update (Vₚ m d) (dr main_v6) (rows (X d))
def Vₖ (d : Dev nD) : Valuation τ sig (Elt F) := Function.update (Vₛ m X d) (dr main_v7) (k1_pay1 (F := F) (rows (X d)))
def Vₑ (d : Dev nD) : Valuation τ sig (Elt F) := flatOp.result (Vₖ m X d)

theorem Vₛ_out (d : Dev nD) : Vₛ m X d (dr main_v6) = rows (X d) := Function.update_self _ _ _
theorem Vₛ_ne (d : Dev nD) {b : DevRef τ sig} (h : b ≠ dr main_v6) : Vₛ m X d b = Vₚ m d b := Function.update_of_ne h _ _
theorem Vₖ_out (d : Dev nD) : Vₖ m X d (dr main_v7) = k1_pay1 (F := F) (rows (X d)) := Function.update_self _ _ _
theorem Vₖ_ne (d : Dev nD) {b : DevRef τ sig} (h : b ≠ dr main_v7) : Vₖ m X d b = Vₛ m X d b := Function.update_of_ne h _ _

/-- The arrays at the call are the inputs, at each device. -/
def Fit : Prop := ∀ d, Fits (X d) (Vₚ m d)

theorem Fit.after {m : (ℓ : Loc nD τ sig) → Buf (Elt F) ℓ} {X : Dev nD → Inputs F} (h : Fit m X) (d : Dev nD) : Fits (X d) (Vₛ m X d) where
  c := (Vₛ_ne m X d (by decide)).trans (h d).c
  b := (Vₛ_ne m X d (by decide)).trans (h d).b
  s := (Vₛ_ne m X d (by decide)).trans (h d).s
  ai := (Vₛ_ne m X d (by decide)).trans (h d).ai
  ab := (Vₛ_ne m X d (by decide)).trans (h d).ab
  g := (Vₛ_ne m X d (by decide)).trans (h d).g
  t := (Vₛ_ne m X d (by decide)).trans (h d).t

/-! ## The call -/

/-- What the output array holds when the call is reached. -/
def fo (d : Dev nD) : Buf (Elt F) (loc d main_v6) := Vₚ m d (dr main_v6)

/-- What the call is given and gives back, over both SparseCores. -/
theorem st_eq (d : Dev nD) : (bigSep Finset.univ fun c : Fin ((K (F := F)).nCore 0) => (P X (fo m)).st 0 d c)
    = iprop(arrsT d (X d) fullShare ∗ loc d main_v6 ↦{fullShare} fo m d) :=
  (all_split X d (fo m d)).symm
theorem dn_eq (d : Dev nD) : (bigSep Finset.univ fun c : Fin ((K (F := F)).nCore 0) => (P X (fo m)).dn 0 d c)
    = iprop(arrsT d (X d) fullShare ∗ loc d main_v6 ↦{fullShare} rows (X d)) :=
  (all_split X d (rows (X d))).symm

/-- The arrays the call is not given, before and after it. -/
theorem rest_eq (d : Dev nD) :
    (held (SparseCore.T d) (ucRefs \ (dr main_arg1 :: callRefs).toFinset) (Vₛ m X d) : sProp 𝕄)
      = held (SparseCore.T d) (ucRefs \ (dr main_arg1 :: callRefs).toFinset) (Vₚ m d) :=
  StableHlo.held_congr _ fun b hb => Vₛ_ne m X d fun e => (Finset.mem_sdiff.mp hb).2 (e ▸ by decide)

/-! ## The TensorCore's kernel -/

abbrev Vr (W : Dev nD → Valuation τ sig (Elt F)) : (c : Dev nD) → (b : Ref sig .tc) → Buf (Elt F) ((c : Thread nD τ).loc b) := fun c b => W c (dr b)

def region : Pipeline.RegionSeg (pcfgs (F := F)) adm (pdats (Vr (Vₛ m X))) none defs₀ 𝒱₀ (K (F := F)).L (K (F := F)).lev 0 :=
  reg (Vr (Vₛ m X)) (Vr (Vₖ m X)) (fun _ => iprop(emp))
    (fun c => by rw [combined_eq]; exact (Vₖ_out m X c).trans (congrArg (fun f : Vec F S32x1024 .f32 => k1_pay1 f) (Vₛ_out m X c).symm))
    (fun c b h => Vₖ_ne m X c fun e => h (Proc.devRef_injective _ e))

theorem region_pre (d : Dev nD) : (region m X).pre d
    = iprop((unscopedBufs d (Vr (Vₛ m X) d) ∗ emp) ∗ ∃ W, owes (d : Thread nD τ) (0 : CellTallies nD τ sig (HIx 1)) W) := rfl
theorem region_post (d : Dev nD) : (region m X).post d
    = iprop((unscopedBufs d (Vr (Vₖ m X) d) ∗ emp) ∗ ∃ W, owes (d : Thread nD τ) (0 : CellTallies nD τ sig (HIx 1)) W) := rfl

/-! ## The launch element -/

/-- The ghost state of the TensorCore kernel's cells, on device `d`. -/
abbrev G (d : Dev nD) : sProp 𝕄 :=
  iprop((bigSep Finset.univ fun p : Fin 1 => Pipeline.cellsGhost cfgs (EP (F := F)) p d)
    ∗ bigSep Finset.univ fun p : Fin 1 => Pipeline.toksInit cfgs (EP (F := F)) p d)

def u₀ (F : FTy → Type) : UU := (initOf (K (F := F)).hsCells (K (F := F)).hsToks, (initOf (Pipeline.cells (nD := nD) (τ := τ) cfgs cellOf_inj) (Pipeline.launchToks cfgs cellOf_inj), 1))

omit [FloatOps F] in
theorem bigSep_none {I : Type} (s : Finset I) : (bigSep s fun _ => iprop(emp)) = (iprop(emp) : sProp 𝕄) := bigSep_emp_const s

theorem hu₀ : (ownU (u₀ F) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X (fo m)).x q thr) := by
  unfold u₀
  iintro Hu
  ihave ⟨HH, HR⟩ := (ownU_pair _ _) $$ Hu
  ihave ⟨HP, -⟩ := (own_pair_emb _ _ _) $$ HR
  imod (Pipeline.fund_ghost cfgs (EP (F := F)) cellOf_inj) $$ HP with ⟨Hg, Ht⟩
  imodintro
  isplitl [HH]; · iexact HH
  isplitl [Hg Ht]
  · rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## @main -/

/-- What @main leaves: every array at its final contents. -/
abbrev FIN (d : Dev nD) : sProp 𝕄 := held (SparseCore.T d) ucRefs (Vₑ m X d)

theorem main_eq (d : Dev nD) : main (F := F) d = StableHlo.seq padOps >>= fun _ => (do
    sc.run d 0
    SparseCore.liftProg (.op (.customCall (Pipeline.entry 0) ()) .ret)
    hlo rfl flatOp (fun _ => .ret ⟨⟩)
    pure ⟨⟩) := rfl

theorem padOps_sub : ∀ op ∈ padOps (F := F), op.bufs ⊆ ucRefs := by
  intro op h
  simp only [padOps, List.mem_cons, List.not_mem_nil, _root_.or_false] at h
  rcases h with rfl | rfl | rfl | rfl | rfl | rfl | rfl | rfl | rfl
  · exact show ({dr main_c} : Finset (DevRef τ sig)) ⊆ ucRefs by decide
  · exact show ({dr main_c, dr main_v0} : Finset (DevRef τ sig)) ⊆ ucRefs by decide
  · exact show ({dr main_arg0, dr main_v0, dr main_v1} : Finset (DevRef τ sig)) ⊆ ucRefs by decide
  · exact show ({dr main_c_0} : Finset (DevRef τ sig)) ⊆ ucRefs by decide
  · exact show ({dr main_c_0, dr main_v2} : Finset (DevRef τ sig)) ⊆ ucRefs by decide
  · exact show ({dr main_arg3, dr main_v2, dr main_v3} : Finset (DevRef τ sig)) ⊆ ucRefs by decide
  · exact show ({dr main_cst} : Finset (DevRef τ sig)) ⊆ ucRefs by decide
  · exact show ({dr main_cst, dr main_v4} : Finset (DevRef τ sig)) ⊆ ucRefs by decide
  · exact show ({dr main_arg5, dr main_v4, dr main_v5} : Finset (DevRef τ sig)) ⊆ ucRefs by decide
theorem padOps_fresh : ∀ op ∈ padOps (F := F), op.fresh = ∅ := by
  intro op h
  simp only [padOps, List.mem_cons, List.not_mem_nil, _root_.or_false] at h
  rcases h with rfl | rfl | rfl | rfl | rfl | rfl | rfl | rfl | rfl <;> rfl

theorem flat_sub : (flatOp (F := F)).bufs ⊆ ucRefs := show ({dr main_v7, dr main_v8} : Finset (DevRef τ sig)) ⊆ ucRefs by decide

omit [FloatOps F] in
theorem one_eq (Φ : Fin 1 → sProp 𝕄) : (bigSep Finset.univ fun p : Fin 1 => Φ p) = Φ 0 := by
  rw [show (Finset.univ : Finset (Fin 1)) = {0} from rfl, bigSep_singleton]

/-- After the call every level is low enough. -/
theorem below {thr : Thread nD τ} (W : Waits sig (HIx 1)) : (K (F := F)).WBelow thr W (8 * SparseCore.Cfg.Blocks.fst 1 1 1) := by
  intro p _
  show (K (F := F)).lev (thr, p.1) p.2 ≤ 8
  rcases h : p.2 with _ | q
  · exact Nat.zero_le _
  · exact ((K (F := F)).lev_some_le _ q).trans (by omega)

theorem hmain (hX : Fit m X) (κ : GSem nD τ sig → ℕ) (d : Dev nD) :
    iprop((K (F := F)).ctx EH (P X (fo m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m X d ∗ (K (F := F)).tcEnd d) := by
  have hO : (K (F := F)).Otc (N := 1) d 1 = 0 := (K (F := F)).Otc_end d (le_refl 1)
  unfold SparseCore.Cfg.tcRes SparseCore.Cfg.tcEnd
  rw [main_eq, show (unscopedBufs d fun b => m ((SparseCore.T d).loc b) : sProp 𝕄) = held (SparseCore.T d) ucRefs (Vₗ m d) from unscoped_held d (Vₗ m d)]
  iintro ⟨#Hctx, Hst, ⟨Hb, Hheld, Hts, -⟩, ⟨Hg, Ht⟩⟩
  -- the host operations
  iapply (StableHlo.wp_seq 𝒱 none Set.univ d ucRefs _ padOps padOps_sub padOps_fresh (Vₗ m d)) $$ [Hb Hheld]
  · isplitl [Hb] <;> iassumption
  iintro ⟨Hb, Hheld⟩
  simp only [wp_bind, wp_pure]
  ihave Hh := (Entails.of_eq (show (held (SparseCore.T d) ucRefs (StableHlo.after padOps (Vₗ m d)) : sProp 𝕄) = _ from call_split (F := F) d (X d) (Vₚ m d) (hX d))) $$ Hheld
  icases Hh with ⟨Hcall, Hrest⟩
  -- the call
  iapply ((K (F := F)).wp_run (D (F := F)) 𝒱 (EH := EH) (P := P X (fo m)) κ d 0) $$ [Hst Hcall Hrest Hb Hts Hg Ht]
  isplitr; · iexact Hctx
  isplitl [Hst]; · iexact Hst
  isplitl [Hcall]
  · rw [st_eq]; iexact Hcall
  iintro ⟨Hst, Hdn⟩
  ihave Hcall := (Entails.of_eq (dn_eq m X d)) $$ Hdn
  -- the TensorCore's kernel
  ihave Hheld := (Entails.of_eq (call_split (F := F) d (X d) (Vₛ m X d) (hX.after d)).symm) $$ [Hcall Hrest]
  · rw [Vₛ_out, rest_eq]
    isplitl [Hcall] <;> iassumption
  ihave #Hlev := (SparseCore.Cfg.ctx_levAts κ) $$ Hctx
  unfold SparseCore.Cfg.tcSt
  icases Hst with ⟨⟨%W, -, HO⟩, Hst⟩
  iapply ((K (F := F)).wp_liftProg (D (F := F)) 𝒱 (SparseCore.T d) Set.univ none _ _)
  iapply (Pipeline.RegionSeg.wp pcfgs adm (pdats (Vr (Vₛ m X))) none cellOf_inj (EP (F := F)) defs₀ 𝒱₀ (K (F := F)).L (K (F := F)).lev (region m X) d none (fun _ h => nomatch h) _ _) $$ [Hb Hheld Hg Ht HO Hst Hts]
  rw [region_pre, region_post]
  isplitl [Hst Hts]
  · iintro ⟨Hb, ⟨Hub, -⟩, %W', HO⟩
    ihave Hheld := (Entails.of_eq (unscoped_held (F := F) d (Vₖ m X d))) $$ Hub
    rw [wp_ret]; imodintro
    -- the reshape
    iapply (wp_hlo_within 𝒱 (SparseCore.T d) none Set.univ (op := flatOp) (S := ucRefs) flat_sub (V := Vₖ m X d)) $$ [Hb Hheld]
    · isplitl [Hb]; · iexact Hb
      iexact Hheld
    iintro ⟨Hb, Hheld⟩
    rw [wp_ret]; imodintro; imodintro
    isplitl [HO Hst]
    · isplitl [HO]
      · iexists W'
        isplitr
        · ipureintro; exact below _
        · rw [hO]; iexact HO
      iexact Hst
    isplitl [Hheld]; · iexact Hheld
    isplitl [Hb] <;> iassumption
  isplitl [Hb]; · iexact Hb
  isplitl [Hheld HO]
  · isplitl [Hheld]
    · isplitl [Hheld]
      · ihave Hub := (Entails.of_eq (unscoped_held (F := F) d (Vₛ m X d)).symm) $$ Hheld
        iexact Hub
      iempintro
    iexists W
    ihave HO := (Entails.of_eq (show (owes (SparseCore.T d) ((K (F := F)).Otc d ((0 : Fin 1).val + 1)) W : sProp 𝕄) = owes (SparseCore.T d) 0 W from congrArg (fun O => (owes (SparseCore.T d) O W : sProp 𝕄)) hO)) $$ HO
    iexact HO
  isplitr; · iexact Hlev
  isplitl [Hg]
  · ihave Hg := (Entails.of_eq (one_eq (F := F) fun p => Pipeline.cellsGhost cfgs (EP (F := F)) p d)) $$ Hg
    iexact Hg
  ihave Ht := (Entails.of_eq (one_eq (F := F) fun p => Pipeline.toksInit cfgs (EP (F := F)) p d)) $$ Ht
  iexact Ht

/-! ## The run -/

/-- A final state has every array at its final contents. -/
def fq (d : Dev nD) (s' : Phys nD τ sig (Elt F)) : Prop := ∀ b ∈ ucRefs, s'.mem.mem (d, b) = Vₑ m X d b

theorem hfin (d : Dev nD) (s' : Phys nD τ sig (Elt F)) : iprop(FIN m X d ∗ SI s') ⊢ (⌜fq m X d s'⌝ : sProp 𝕄) := by
  have h1 (b : DevRef τ sig) (hb : b ∈ ucRefs) : iprop(FIN m X d ∗ SI s') ⊢ (⌜s'.mem.mem (d, b) = Vₑ m X d b⌝ : sProp 𝕄) := by
    iintro ⟨Hx, HSI⟩
    ihave Hx := (show FIN m X d ⊢ (((d, b) : Loc nD τ sig) ↦{fullShare} Vₑ m X d b : sProp 𝕄) from bigSep_elim hb) $$ Hx
    ihave H := (SI_pointsTo_agree (st := s') (ℓ := ((d, b) : Loc nD τ sig)) (I := Finset.univ) (q := fullShare) (f := Vₑ m X d b)) $$ [HSI Hx]
    · isplitl [HSI] <;> iassumption
    icases H with %hx
    ipureintro; exact funext fun i => hx i (Finset.mem_univ i)
  exact fun x hx => fun b hb => h1 b hb x hx

/-- Every run ends with every array at its final contents and every semaphore at zero. -/
theorem run_main [∀ e, Nonempty (Elt F e)] (hX : Fit m X) :
    θ_run (Cert.KernelIdeal.defs (F := F)) (Cert.KernelIdeal.threads (F := F)) ⟨m, fun _ => 0, ρ⟩
      fun r => (∀ (d : Dev nD), ∀ b ∈ ucRefs, r.2.mem (d, b) = Vₑ m X d b) ∧ r.2.sem = fun _ => 0 :=
  SparseCore.Cfg.θ_run_sc_quiescent (K := K (F := F)) (D := D (F := F)) (𝒱 := 𝒱) (EH := EH) (P := P X (fo m)) (A := ∅) facts v₀
    (fun q hq => match q with | 0 => nomatch hq)
    (fun q _ => match q with | 0 => tileObl X (fo m))
    (fun q _ => match q with | 0 => SparseCore.Cfg.VecSplit.of_plain (vecSplit X (fo m)))
    m ρ main (fun d => G d) (FIN m X) (u₀ F) (sep_elim_left.trans (hu₀ m X)) (hmain m ρ X hX) (fq m X) (hfin m X) _ (fun _ h hz => ⟨h, hz⟩)

end Cert.Proof.Sc
end
-- ==== Proof.ScPre.lean ====
/-
  What the precondition says of the launch's arrays, read back as numbers; the inputs of the SparseCore call it allows
  (`X`); and that the host operations before the call do put them where the call reads them (`fit`).
-/
module

public import proofs.«01_k».proof.Proof.ScMain
public import proofs.«01_k».proof.Proof.Gen.Pre_in_range
public import Idealize.ShloMosaic.Lib.ReduceAll
public import Idealize.ShloMosaic.Lib.Pointwise.SelectCore

@[expose] public section

noncomputable section

namespace Cert.Proof.Sc

open Cert.KernelIdeal Cert.KernelIdeal.Gen
open Idealize.ShloMosaic
open Idealize.ShloMosaic.TcCoe
open Idealize.ShloMosaic.StableHlo (after)
open Idealize.SL.Sem

variable {F : FTy → Type} [FloatOps F]

/-! ## The precondition -/

/-- The four index arrays' ranges. -/
structure Ranges (a0 : S100000.Idx → BitVec 32) (a2 : S1600000.Idx → BitVec 32) (a3 : S100000.Idx → BitVec 32)
    (a4 : S1600000.Idx → BitVec 32) : Prop where
  types : ∀ j, (a0 j).toNat < 8
  basis : ∀ j, (a2 j).toNat < 64
  atomSeg : ∀ j, (a3 j).toNat < 1024
  coeffSeg : ∀ j, (a4 j).toNat < 1024

/-- A word that is nonnegative and below `n`, signed, is below `n` unsigned. -/
theorem toNat_lt {v n : BitVec 32} (h0 : IntOp.cmpi .sge v 0#32 = 1#1) (h1 : IntOp.cmpi .slt v n = 1#1)
    (hn : n.toNat < 2 ^ 31) : v.toNat < n.toNat := by
  rw [IntOp.cmpi_sge] at h0
  rw [IntOp.cmpi_slt] at h1
  have e : n.toInt = n.toNat := BitVec.toInt_eq_toNat_of_lt (by omega)
  rw [e] at h1
  have z : (0#32 : BitVec 32).toInt = 0 := by decide
  rw [z] at h0
  have : v.toInt = v.toNat ∨ v.toInt = v.toNat - 2 ^ 32 := by
    rw [BitVec.toInt_eq_toNat_cond]; split <;> simp
  have := v.isLt
  omega

instance : Subsingleton (Cert.Pre_in_range.S_.Idx) := ⟨fun a b => funext fun i => nomatch i⟩

theorem ranges (a0 : S100000.Idx → BitVec 32) (a1 : S1600000.Idx → F .f32) (a2 : S1600000.Idx → BitVec 32)
    (a3 : S100000.Idx → BitVec 32) (a4 : S1600000.Idx → BitVec 32) (a5 : S8.Idx → F .f32) (a6 : S64.Idx → F .f32)
    (h : Cert.Pre_in_range.fn (F := F) a0 a1 a2 a3 a4 a5 a6 = fun _ => 1#1) : Ranges a0 a2 a3 a4 := by
  have e := congrFun h (fun i => nomatch i)
  simp only [Cert.Pre_in_range.fn, Cert.Pre_in_range.fn_part1, andi, IntOp.andi_eq_one] at e
  obtain ⟨⟨⟨⟨⟨⟨⟨e1, e2⟩, e3⟩, e4⟩, e5⟩, e6⟩, e7⟩, e8⟩ := e
  have r1 := Host.reduce_andi_all _ _ _ _ _ e1
  have r2 := Host.reduce_andi_all _ _ _ _ _ e2
  have r3 := Host.reduce_andi_all _ _ _ _ _ e3
  have r4 := Host.reduce_andi_all _ _ _ _ _ e4
  have r5 := Host.reduce_andi_all _ _ _ _ _ e5
  have r6 := Host.reduce_andi_all _ _ _ _ _ e6
  have r7 := Host.reduce_andi_all _ _ _ _ _ e7
  have r8 := Host.reduce_andi_all _ _ _ _ _ e8
  exact ⟨fun j => toNat_lt (n := 8#32) (r1 j) (r2 j) (by decide), fun j => toNat_lt (n := 64#32) (r3 j) (r4 j) (by decide),
    fun j => toNat_lt (n := 1024#32) (r5 j) (r6 j) (by decide), fun j => toNat_lt (n := 1024#32) (r7 j) (r8 j) (by decide)⟩

/-! ## The padded arrays -/

/-- The atom types, padded with the index of a table entry that is zero. -/
def padTypes (a0 : S100000.Idx → BitVec 32) : S100352.Idx → BitVec 32 :=
  concatenate S100352 0 [⟨S100000, a0⟩, ⟨S352, broadcastInDim S352 ![] bcast_S_S352 (constantI S_ 32 8#32)⟩] concatenates_S100000_S352_S100352_d0
/-- The atom segments, padded with segment 0. -/
def padSegs (a3 : S100000.Idx → BitVec 32) : S100352.Idx → BitVec 32 :=
  concatenate S100352 0 [⟨S100000, a3⟩, ⟨S352, broadcastInDim S352 ![] bcast_S_S352 (constantI S_ 32 0#32)⟩] concatenates_S100000_S352_S100352_d0
/-- The atoms' table, padded with zeros. -/
def padTable (a5 : S8.Idx → F .f32) : S16.Idx → F .f32 :=
  concatenate S16 0 [⟨S8, a5⟩, ⟨S8, broadcastInDim S8 ![] bcast_S_S8 (constant S_ .f32 0x00000000#32 : S_.Idx → F .f32)⟩] concatenates_S8_S8_S16_d0

theorem padTypes_lt (a0 : S100000.Idx → BitVec 32) (h : ∀ j, (a0 j).toNat < 8) (j : S100352.Idx) : (padTypes a0 j).toNat < 16 := by
  refine concatenate_forall (P := fun v : BitVec 32 => v.toNat < 16) S100352 0 _ _ (fun p hp i => ?_) j
  rcases List.mem_cons.mp hp with rfl | hp
  · exact (h i).trans (by decide)
  · rcases List.mem_singleton.mp hp with rfl
    exact (by decide : (8#32 : BitVec 32).toNat < 16)

theorem padSegs_lt (a3 : S100000.Idx → BitVec 32) (h : ∀ j, (a3 j).toNat < 1024) (j : S100352.Idx) : (padSegs a3 j).toNat < 1024 := by
  refine concatenate_forall (P := fun v : BitVec 32 => v.toNat < 1024) S100352 0 _ _ (fun p hp i => ?_) j
  rcases List.mem_cons.mp hp with rfl | hp
  · exact h i
  · rcases List.mem_singleton.mp hp with rfl
    exact (by decide : (0#32 : BitVec 32).toNat < 1024)

/-- The call's inputs, from the program's arguments. -/
def inputs (a0 : S100000.Idx → BitVec 32) (a1 : S1600000.Idx → F .f32) (a2 : S1600000.Idx → BitVec 32)
    (a3 : S100000.Idx → BitVec 32) (a4 : S1600000.Idx → BitVec 32) (a5 : S8.Idx → F .f32) (a6 : S64.Idx → F .f32)
    (h : Ranges a0 a2 a3 a4) : Inputs F where
  C := a1
  B := a2
  S := a4
  AI := padTypes a0
  AB := padSegs a3
  G := a6
  T := padTable a5
  hB := h.basis
  hS := h.coeffSeg
  hAI := padTypes_lt a0 h.types
  hAB := padSegs_lt a3 h.atomSeg

/-! ## At the launch memory -/

variable (m : (ℓ : Loc nD τ sig) → Buf (Elt F) ℓ)

/-- The ranges hold at each device. -/
def Good : Prop := ∀ d : Dev nD, Ranges (m (loc d main_arg0)) (m (loc d main_arg2)) (m (loc d main_arg3)) (m (loc d main_arg4))

def X (h : Good m) (d : Dev nD) : Inputs F :=
  inputs (m (loc d main_arg0)) (m (loc d main_arg1)) (m (loc d main_arg2)) (m (loc d main_arg3)) (m (loc d main_arg4))
    (m (loc d main_arg5)) (m (loc d main_arg6)) (h d)

/-- The arrays the host operations write. -/
abbrev padW : List (Ref sig .tc) := [main_c, main_v0, main_v1, main_c_0, main_v2, main_v3, main_cst, main_v4, main_v5]

theorem padOps_writes : (padOps (F := F)).Forall fun op => op.writes ⊆ (padW.map (Proc.devRef (τ := τ) .tc)).toFinset := by
  simp only [padOps, List.forall_cons, List.Forall, StableHlo.nullary_writes, StableHlo.unary_writes, StableHlo.binary_writes]
  decide

/-- What the host operations leave alone. -/
theorem Vₚ_arg (d : Dev nD) (r : Ref sig .tc) (h : r ∉ padW) : Vₚ m d (dr r) = m (loc d r) :=
  StableHlo.after_of_writes_sub padOps _ padOps_writes h

theorem Vₚ_types (d : Dev nD) : Vₚ m d (dr main_v1) = padTypes (m (loc d main_arg0)) := by
  unfold Vₚ padOps
  simp (discharger := decide) only [StableHlo.after_cons, StableHlo.after_nil, StableHlo.nullary_result', StableHlo.unary_result',
    StableHlo.binary_result', StableHlo.nullary_result_ne', StableHlo.unary_result_ne', StableHlo.binary_result_ne']
  rfl
theorem Vₚ_segs (d : Dev nD) : Vₚ m d (dr main_v3) = padSegs (m (loc d main_arg3)) := by
  unfold Vₚ padOps
  simp (discharger := decide) only [StableHlo.after_cons, StableHlo.after_nil, StableHlo.nullary_result', StableHlo.unary_result',
    StableHlo.binary_result', StableHlo.nullary_result_ne', StableHlo.unary_result_ne', StableHlo.binary_result_ne']
  rfl
theorem Vₚ_table (d : Dev nD) : Vₚ m d (dr main_v5) = padTable (F := F) (m (loc d main_arg5)) := by
  unfold Vₚ padOps
  simp (discharger := decide) only [StableHlo.after_cons, StableHlo.after_nil, StableHlo.nullary_result', StableHlo.unary_result',
    StableHlo.binary_result', StableHlo.nullary_result_ne', StableHlo.unary_result_ne', StableHlo.binary_result_ne']
  rfl

theorem fit (h : Good m) : Fit m (X m h) := fun d =>
  { c := Vₚ_arg m d main_arg1 (by decide)
    b := Vₚ_arg m d main_arg2 (by decide)
    s := Vₚ_arg m d main_arg4 (by decide)
    ai := Vₚ_types m d
    ab := Vₚ_segs m d
    g := Vₚ_arg m d main_arg6 (by decide)
    t := Vₚ_table m d }

/-- An argument at the return. -/
theorem Vₑ_arg (h : Good m) (d : Dev nD) (r : Ref sig .tc) (hr : r ∉ main_v8 :: main_v7 :: main_v6 :: padW) :
    Vₑ m (X m h) d (dr r) = m (loc d r) := by
  simp only [List.mem_cons, not_or] at hr
  unfold Vₑ
  rw [StableHlo.reshape_result_ne (h := hr.1), Vₖ_ne m _ d fun e => hr.2.1 (Proc.devRef_injective _ e),
    Vₛ_ne m _ d fun e => hr.2.2.1 (Proc.devRef_injective _ e)]
  exact Vₚ_arg m d r (by simp only [List.mem_cons, not_or]; exact hr.2.2.2)

/-- The result. -/
def value (h : Good m) (d : Dev nD) : S1024.Idx → F .f32 :=
  shapeCast S1024 (k1_pay1 (F := F) (rows (X m h d))) shapeCasts_S1x1024_S1024

theorem Vₑ_out (h : Good m) (d : Dev nD) : Vₑ m (X m h) d (dr main_v8) = value m h d := by
  unfold Vₑ
  rw [StableHlo.reshape_result', Vₖ_out]
  rfl

/-! ## The run, as the claims state it -/

theorem run [∀ e, Nonempty (Elt F e)] (ρ : Dev nD → PrngReg) (h : Good m) :
    θ_run (Cert.KernelIdeal.defs (F := F)) (Cert.KernelIdeal.threads (F := F)) ⟨m, fun _ => 0, ρ⟩ fun r =>
      (∀ d : Dev nD, r.2.mem (loc d main_v8) = value m h d ∧ r.2.mem (loc d main_arg0) = m (loc d main_arg0)
        ∧ r.2.mem (loc d main_arg1) = m (loc d main_arg1) ∧ r.2.mem (loc d main_arg2) = m (loc d main_arg2)
        ∧ r.2.mem (loc d main_arg3) = m (loc d main_arg3) ∧ r.2.mem (loc d main_arg4) = m (loc d main_arg4)
        ∧ r.2.mem (loc d main_arg5) = m (loc d main_arg5) ∧ r.2.mem (loc d main_arg6) = m (loc d main_arg6))
      ∧ r.2.sem = fun _ => 0 := by
  refine (θ_run (Cert.KernelIdeal.defs (F := F)) _ _).mono (fun r hr => ⟨fun d => ?_, hr.2⟩) (run_main m ρ (X m h) (fit m h))
  have get (b : Ref sig .tc) (hb : b.isScoped = false) := hr.1 d (dr b) (ucRefs_mem b hb)
  exact ⟨(get main_v8 rfl).trans (Vₑ_out m h d), (get main_arg0 rfl).trans (Vₑ_arg m h d _ (by decide)),
    (get main_arg1 rfl).trans (Vₑ_arg m h d _ (by decide)), (get main_arg2 rfl).trans (Vₑ_arg m h d _ (by decide)),
    (get main_arg3 rfl).trans (Vₑ_arg m h d _ (by decide)), (get main_arg4 rfl).trans (Vₑ_arg m h d _ (by decide)),
    (get main_arg5 rfl).trans (Vₑ_arg m h d _ (by decide)), (get main_arg6 rfl).trans (Vₑ_arg m h d _ (by decide))⟩

end Cert.Proof.Sc

end
-- ==== Proof.ScSum.lean ====
/-
  The kernel's result over the extended reals: each entry is one sum over all the coefficients, one sum over all the atoms
  (the padding adds zeros), and the constant. There addition is associative and commutative, so the order in which tiles,
  trips and lanes add their terms does not matter.
-/
module

public import proofs.«01_k».proof.Proof.ScPre
public import Idealize.ShloMosaic.Lib.IdealHost
public import Idealize.ShloMosaic.Lib.Pointwise.Index
public import Idealize.ShloMosaic.Lib.Pointwise.Reduce
public import Idealize.ShloMosaic.Lib.Pointwise.Reshape
public import Idealize.ShloMosaic.Lib.Pointwise.SelectCore
public import Idealize.ShloMosaic.Lib.ValueIdx

@[expose] public section

noncomputable section

namespace Cert.Proof.Sc

open Cert.KernelIdeal Cert.KernelIdeal.Gen
open Idealize.ShloMosaic
open Finset (range sum_range sum_congr)

/-! ## Arrays read at a natural number -/

/-- Entry `k` of a vector, wrapped around at its end. -/
def entry {α : Type} {N : ℕ} (hN : 0 < N) (A : (⟨1, ![N]⟩ : Shape).Idx → α) (k : ℕ) : α :=
  A (ValueIdx.ix1 ⟨k % N, Nat.mod_lt k hN⟩)

theorem entry_of {α : Type} {N : ℕ} (hN : 0 < N) (A : (⟨1, ![N]⟩ : Shape).Idx → α) (k : Fin N) :
    entry hN A k.val = A (ValueIdx.ix1 k) := by
  unfold entry
  congr 2
  exact Fin.ext (Nat.mod_eq_of_lt k.isLt)

theorem entry_eq {α : Type} {N : ℕ} (hN : 0 < N) (A : (⟨1, ![N]⟩ : Shape).Idx → α) {k : ℕ} (j : (⟨1, ![N]⟩ : Shape).Idx)
    (h : (j 0).val = k) : entry hN A k = A j := by
  subst h
  exact (entry_of hN A (j 0)).trans (congrArg A (ValueIdx.eq_ix1 j).symm)

/-- What position `i` adds at segment `s`: the table's entry at the position's index, times the position's coefficient, when
    the position's segment is `s`. -/
def term {n N : ℕ} (hn : 0 < n) (hN : 0 < N) (seg ind : (⟨1, ![n]⟩ : Shape).Idx → BitVec 32) (tab : (⟨1, ![N]⟩ : Shape).Idx → EReal)
    (w : ℕ → EReal) (s i : ℕ) : EReal :=
  if (entry hn seg i).toNat = s then entry hN tab (entry hn ind i).toNat * w i else 0

/-! ## The indexed store with add -/

/-- An indexed store with add, every lane active, adds at `j` the lanes whose indices name `j`. -/
theorem storeIdx_apply {s : Shape} {d : Fin 1 → ℕ} (a : Vec Ideal s .f32) (idxs : Fin s.rank → IVec ⟨1, d⟩ 32) (v : Vec Ideal ⟨1, d⟩ .f32)
    (h : ∀ a x, (idxs a x).toNat < s.size a) (j : s.Idx) :
    storeIdx (F := Ideal) a idxs v (fun _ => 1#1) true h j
      = (a j + ∑ k : Fin (d 0), if (∀ b, (j b).val = (idxs b (Shape.ofLane k)).toNat) then v (Shape.ofLane k) else 0 : EReal) := by
  rw [Fin.sum_univ_def]
  unfold storeIdx
  generalize List.finRange (d 0) = l
  induction l generalizing a with
  | nil => exact (add_zero (a j : EReal)).symm
  | cons k l ih =>
    rw [List.foldl_cons]
    refine (ih _).trans ?_
    rw [List.map_cons, List.sum_cons, ← add_assoc]
    refine congrArg (fun t : EReal => t + (l.map _).sum) ?_
    refine (congrFun (if_pos rfl) j).trans ?_
    by_cases e : ∀ b, (j b).val = (idxs b (Shape.ofLane k)).toNat
    · rw [if_pos e]
      refine (if_pos e).trans ?_
      have : idxAt idxs h (Shape.ofLane k) = j := funext fun b => Fin.ext (e b).symm
      rw [this]
      rfl
    · rw [if_neg e, add_zero]
      exact if_neg e

/-! ## A trip, a tile -/

variable (X : Inputs Ideal)

abbrev hC : 0 < 1600000 := by decide
abbrev hP : 0 < 100352 := by decide
abbrev hA : 0 < 100000 := by decide
abbrev hG : 0 < 64 := by decide
abbrev hT : 0 < 16 := by decide
abbrev h8 : 0 < 8 := by decide

/-- A coefficient's term, an atom's term. -/
abbrev termC (s i : ℕ) : EReal := term hC hG X.S X.B X.G (entry hC X.C) s i
abbrev termA (s i : ℕ) : EReal := term hP hT X.AB X.AI X.T (fun _ => 1) s i

theorem lanesC_lane {α : Type} (A : S1600000.Idx → α) (p : ℕ) (k : Fin 16) : lanesC A p (Shape.ofLane (d := ![16]) k) = entry hC A (p + k.val) :=
  congrArg A (funext fun b => by obtain rfl : b = 0 := Subsingleton.elim _ _; rfl)
theorem lanesA_lane {α : Type} (A : S100352.Idx → α) (p : ℕ) (k : Fin 16) : lanesA A p (Shape.ofLane (d := ![16]) k) = entry hP A (p + k.val) :=
  congrArg A (funext fun b => by obtain rfl : b = 0 := Subsingleton.elim _ _; rfl)

theorem stepC_apply (p : ℕ) (a : Vec Ideal S1024 .f32) (j : S1024.Idx) :
    stepC X p a j = (a j + ∑ i ∈ range 16, termC X (j 0).val (p + i) : EReal) := by
  refine (storeIdx_apply a _ _ (chkS X p) j).trans ?_
  rw [sum_range]
  refine congrArg (fun t : EReal => (a j + t : EReal)) (Fintype.sum_congr _ _ fun k => ?_)
  unfold termC term
  have eS : _ = (entry hC X.S (p + k.val)).toNat := congrArg BitVec.toNat (lanesC_lane X.S p k)
  refine if_congr ⟨fun e => eS.symm.trans (e 0).symm, fun e b => ?_⟩ (congrArg₂ (fun x y : EReal => x * y) ?_ (lanesC_lane X.C p k)) rfl
  · obtain rfl : b = 0 := Subsingleton.elim _ _
    exact e.symm.trans eS.symm
  · exact (entry_eq hG X.G _ (congrArg BitVec.toNat (lanesC_lane X.B p k))).symm

theorem stepA_apply (p : ℕ) (a : Vec Ideal S1024 .f32) (j : S1024.Idx) :
    stepA X p a j = (a j + ∑ i ∈ range 16, termA X (j 0).val (p + i) : EReal) := by
  refine (storeIdx_apply a _ _ (chkAB X p) j).trans ?_
  rw [sum_range]
  refine congrArg (fun t : EReal => (a j + t : EReal)) (Fintype.sum_congr _ _ fun k => ?_)
  unfold termA term
  have eS : _ = (entry hP X.AB (p + k.val)).toNat := congrArg BitVec.toNat (lanesA_lane X.AB p k)
  refine if_congr ⟨fun e => eS.symm.trans (e 0).symm, fun e b => ?_⟩ ?_ rfl
  · obtain rfl : b = 0 := Subsingleton.elim _ _
    exact e.symm.trans eS.symm
  · rw [mul_one]
    exact (entry_eq hT X.T _ (congrArg BitVec.toNat (lanesA_lane X.AI p k))).symm

theorem runC_apply (p k : ℕ) (a : Vec Ideal S1024 .f32) (j : S1024.Idx) :
    runC X p k a j = (a j + ∑ i ∈ range (16 * k), termC X (j 0).val (p + i) : EReal) := by
  induction k with
  | zero => exact (add_zero _).symm
  | succ k ih =>
    rw [runC, stepC_apply, ih, Nat.mul_succ, Finset.sum_range_add, add_assoc]
    simp only [Nat.add_assoc]

theorem runA_apply (p k : ℕ) (a : Vec Ideal S1024 .f32) (j : S1024.Idx) :
    runA X p k a j = (a j + ∑ i ∈ range (16 * k), termA X (j 0).val (p + i) : EReal) := by
  induction k with
  | zero => exact (add_zero _).symm
  | succ k ih =>
    rw [runA, stepA_apply, ih, Nat.mul_succ, Finset.sum_range_add, add_assoc]
    simp only [Nat.add_assoc]

theorem tileAcc_apply (w : ℕ) (j : S1024.Idx) :
    tileAcc X w j = (∑ i ∈ range 50000, termC X (j 0).val (50000 * w + i) + ∑ i ∈ range 3136, termA X (j 0).val (3136 * w + i) : EReal) := by
  unfold tileAcc
  rw [runA_apply, runC_apply]
  have z : zeros (F := Ideal) j = (0 : EReal) := Ideal.ofBits_zero_f32
  rw [z, zero_add]

/-! ## All tiles -/

/-- Consecutive blocks of `b` terms are one sum. -/
theorem sum_blocks (f : ℕ → EReal) (b n : ℕ) : ∑ w ∈ range n, ∑ i ∈ range b, f (b * w + i) = ∑ i ∈ range (b * n), f i := by
  induction n with
  | zero => rfl
  | succ n ih => rw [Finset.sum_range_succ, ih, Nat.mul_succ, Finset.sum_range_add]

theorem sum_tiles (j : S1024.Idx) : (∑ w ∈ range 32, (tileAcc X w j : EReal))
    = ∑ i ∈ range 1600000, termC X (j 0).val i + ∑ i ∈ range 100352, termA X (j 0).val i := by
  rw [Finset.sum_congr rfl fun w _ => tileAcc_apply X w j, Finset.sum_add_distrib, sum_blocks (termC X (j 0).val), sum_blocks (termA X (j 0).val)]

theorem pay_apply (j : S1024.Idx) : shapeCast S1024 (k1_pay1 (F := Ideal) (rows X)) shapeCasts_S1x1024_S1024 j
    = (∑ i ∈ range 1600000, termC X (j 0).val i + ∑ i ∈ range 100352, termA X (j 0).val i + Ideal.ofBits .f32 0x3F000000#32 : EReal) := by
  rw [← sum_tiles, sum_range]
  unfold k1_pay1
  simp only [pointwise]
  refine congrArg (fun t : EReal => t + _) ?_
  refine (Ideal.reduceAdd_r2_a0 reduces_S32x1024_S1024 (rows X) j).trans (Fintype.sum_congr _ _ fun w => ?_)
  exact congrArg (tileAcc X w.val) (funext fun b => by obtain rfl : b = 0 := Subsingleton.elim _ _; rfl)

/-! ## The padding adds nothing -/

section Padding
variable {α : Type} {N M K : ℕ} (hN : 0 < N) (hM : 0 < M) (hK : 0 < K) (A : (⟨1, ![N]⟩ : Shape).Idx → α) (B : (⟨1, ![M]⟩ : Shape).Idx → α)
  (h : Shape.Concatenates [(⟨1, ![N]⟩ : Shape), ⟨1, ![M]⟩] ⟨1, ![K]⟩ 0) {k : ℕ}

/-- A padded vector read below its padding; in its padding. -/
theorem entry_left (hk : k < N) (hNK : N ≤ K) : entry hK (concatenate ⟨1, ![K]⟩ 0 [⟨⟨1, ![N]⟩, A⟩, ⟨⟨1, ![M]⟩, B⟩] h) k = entry hN A k := by
  refine concatenate_pair_apply_left 0 A B h _ rfl _ fun b => ?_
  obtain rfl : b = 0 := Subsingleton.elim _ _
  show k % N = k % K
  rw [Nat.mod_eq_of_lt hk, Nat.mod_eq_of_lt (hk.trans_le hNK)]
theorem entry_right (hk : k < M) (hNK : N + M = K) :
    entry hK (concatenate ⟨1, ![K]⟩ 0 [⟨⟨1, ![N]⟩, A⟩, ⟨⟨1, ![M]⟩, B⟩] h) (N + k) = entry hM B k := by
  refine concatenate_pair_apply_right 0 A B h _ rfl rfl _ (fun b hb => (hb (Subsingleton.elim _ _)).elim) ?_
  show k % M + N = (N + k) % K
  rw [Nat.mod_eq_of_lt hk, Nat.mod_eq_of_lt (by omega), Nat.add_comm]
end Padding

theorem sum_pad (a0 a3 : S100000.Idx → BitVec 32) (a5 : S8.Idx → EReal) (ht : ∀ j, (a0 j).toNat < 8) (s : ℕ) :
    ∑ i ∈ range 100352, term hP hT (padSegs a3) (padTypes a0) (padTable (F := Ideal) a5) (fun _ => 1) s i
      = ∑ i ∈ range 100000, term hA h8 a3 a0 a5 (fun _ => 1) s i := by
  refine (Finset.sum_range_add _ 100000 352).trans ?_
  have z : ∀ i ∈ range 352, term hP hT (padSegs a3) (padTypes a0) (padTable (F := Ideal) a5) (fun _ => 1) s (100000 + i) = 0 := fun i hi => by
    have e : entry hP (padTypes a0) (100000 + i) = 8#32 :=
      entry_right (by decide : 0 < 352) hP a0 _ concatenates_S100000_S352_S100352_d0 (Finset.mem_range.1 hi) rfl
    have e' : entry hT (padTable (F := Ideal) a5) 8 = (0 : EReal) :=
      (entry_right (k := 0) h8 hT a5 _ concatenates_S8_S8_S16_d0 (by decide) rfl).trans Ideal.ofBits_zero_f32
    unfold term
    rw [e]
    split
    · exact (mul_one _).trans e'
    · rfl
  rw [Finset.sum_eq_zero z, add_zero]
  refine Finset.sum_congr rfl fun i hi => ?_
  have hi := Finset.mem_range.1 hi
  unfold term
  rw [show entry hP (padSegs a3) i = entry hA a3 i from entry_left hA hP a3 _ concatenates_S100000_S352_S100352_d0 hi (by decide),
    show entry hP (padTypes a0) i = entry hA a0 i from entry_left hA hP a0 _ concatenates_S100000_S352_S100352_d0 hi (by decide),
    show entry hT (padTable (F := Ideal) a5) (entry hA a0 i).toNat = entry h8 a5 (entry hA a0 i).toNat from
      entry_left h8 hT a5 _ concatenates_S8_S8_S16_d0 (ht _) (by decide)]

/-- The sums both programs compute, at segment `s`: over the coefficients, over the atoms, and the constant one half. -/
def total (a0 : S100000.Idx → BitVec 32) (a1 : S1600000.Idx → EReal) (a2 : S1600000.Idx → BitVec 32)
    (a3 : S100000.Idx → BitVec 32) (a4 : S1600000.Idx → BitVec 32) (a5 : S8.Idx → EReal) (a6 : S64.Idx → EReal) (s : ℕ) : EReal :=
  ∑ i ∈ range 1600000, term hC hG a4 a2 a6 (entry hC a1) s i + ∑ i ∈ range 100000, term hA h8 a3 a0 a5 (fun _ => 1) s i
    + Ideal.ofBits .f32 0x3F000000#32

/-- The kernel's result, entry by entry. -/
theorem kernel_apply (a0 : S100000.Idx → BitVec 32) (a1 : S1600000.Idx → EReal) (a2 : S1600000.Idx → BitVec 32)
    (a3 : S100000.Idx → BitVec 32) (a4 : S1600000.Idx → BitVec 32) (a5 : S8.Idx → EReal) (a6 : S64.Idx → EReal)
    (h : Ranges a0 a2 a3 a4) (j : S1024.Idx) :
    shapeCast S1024 (k1_pay1 (F := Ideal) (rows (inputs a0 a1 a2 a3 a4 a5 a6 h))) shapeCasts_S1x1024_S1024 j = total a0 a1 a2 a3 a4 a5 a6 (j 0).val := by
  have e := sum_pad a0 a3 a5 h.types (j 0).val
  refine (pay_apply _ j).trans ?_
  unfold total
  rw [← e]
  rfl

end Cert.Proof.Sc

end
-- ==== Proof.ScRef.lean ====
/-
  The reference's result over the extended reals, entry by entry: with the indices in range, its takes read the tables at the
  indices, its segment sums are the sums of `total`.
-/
module

public import proofs.«01_k».proof.Proof.ScSum
public import proofs.«01_k».proof.Proof.Gen.ReferenceIdeal
public import proofs.«01_k».proof.Proof.Gen.ReferenceIdeal.Run
public import Idealize.ShloMosaic.Lib.Routing.OpsPair
public import Idealize.ShloMosaic.Lib.Routing.OpsSearch
public import Idealize.ShloMosaic.Lib.StableHlo.Predicate

@[expose] public section

noncomputable section

namespace Cert.Proof.Sc

open Idealize.ShloMosaic
open Idealize.ShloMosaic.Routing (shape0 shape1 shape2)
open Finset (range sum_range)

/-! ## A take and a segment sum, at any sizes -/

section General
variable {N n : ℕ}

/-- A small word is not negative, signed. -/
theorem not_neg {v : BitVec 32} {b : ℕ} (hv : v.toNat < b) (hb : b < 2 ^ 31) : v.toInt = (v.toNat : ℤ) :=
  BitVec.toInt_eq_toNat_of_lt (by omega)

/-- The wrapping of negative indices leaves indices in range alone. -/
theorem wrap_eq (a c z : IVec (shape1 n) 32) (hz : z = fun _ => 0#32) (hN : N < 2 ^ 31) (ha : ∀ j, (a j).toNat < N) :
    select (cmpi .slt a z) (addi a c) a = a := by
  funext j
  refine if_neg fun e => ?_
  have e' : IntOp.cmpi .slt (a j) 0#32 = 1#1 := by rw [hz] at e; exact e
  rw [IntOp.cmpi_slt, not_neg (ha j) hN] at e'
  have : (0#32 : BitVec 32).toInt = 0 := by decide
  omega

/-- A vector as a column. -/
theorem column_apply {α : Type} (hb : (shape1 n).BroadcastsInDim (shape2 n 1) ![0]) (a : (shape1 n).Idx → α) (i : (shape2 n 1).Idx) :
    broadcastInDim (shape2 n 1) ![0] hb a i = a (ValueIdx.ix1 (i 0)) := by
  refine broadcastInDim_apply ![0] hb a i _ fun e => ?_
  obtain rfl : e = 0 := Subsingleton.elim _ _
  show (i 0).val = if n = 1 then 0 else (i 0).val
  have := (i 0).isLt
  change (i 0).val < n at this
  split <;> omega

/-- A take with its test of the range, at indices in range, reads the table at the index. -/
theorem take_apply (d : GatherDims (shape1 N) (shape2 n 1) (shape1 n)) (hcoll : d.collapsedSliceDims = [0]) (hob : d.operandBatchingDims = [])
    (hsim : d.startIndexMap = [0]) (hivd : d.indexVectorDim = 1) (hN : 0 < N) (hN' : N < 2 ^ 31)
    (hb : (shape1 n).BroadcastsInDim (shape2 n 1) ![0]) (hr : (shape2 n 1).ReducesTo [1] (shape1 n)) (hu : 0 < shape0.numel)
    (tab : (shape1 N).Idx → EReal) (nan' : (shape1 n).Idx → EReal) (a : IVec (shape1 n) 32) (lo hi : IVec (shape2 n 1) 32) (one : IVec shape0 1)
    (hlo : lo = fun _ => 0#32) (hhi : hi = fun _ => BitVec.ofNat 32 (N - 1)) (hone : one = fun _ => 1#1)
    (ha : ∀ j, (a j).toNat < N) (p : Fin n) :
    select (Host.reduce IntOp.andi (andi (cmpi .sge (broadcastInDim (shape2 n 1) ![0] hb a) lo) (cmpi .sle (broadcastInDim (shape2 n 1) ![0] hb a) hi)) one hr hu)
      (Host.gather d tab (broadcastInDim (shape2 n 1) ![0] hb a)) nan' (ValueIdx.ix1 p) = entry hN tab (a (ValueIdx.ix1 p)).toNat := by
  have hbc := column_apply hb a
  have hm : Host.reduce IntOp.andi (andi (cmpi .sge (broadcastInDim (shape2 n 1) ![0] hb a) lo) (cmpi .sle (broadcastInDim (shape2 n 1) ![0] hb a) hi)) one hr hu
      (ValueIdx.ix1 p) = 1#1 := by
    refine Host.reduce_andi_one _ _ _ _ _ (by rw [hone]) fun i => ?_
    show IntOp.andi (IntOp.cmpi .sge (broadcastInDim (shape2 n 1) ![0] hb a i) (lo i)) (IntOp.cmpi .sle (broadcastInDim (shape2 n 1) ![0] hb a i) (hi i)) = 1#1
    have h1 := ha (ValueIdx.ix1 (i 0))
    have h2 : (BitVec.ofNat 32 (N - 1)).toNat = N - 1 := Nat.mod_eq_of_lt (by omega)
    have h3 : (BitVec.ofNat 32 (N - 1)).toInt = ((N - 1 : ℕ) : ℤ) := by
      rw [not_neg (b := N) (by rw [h2]; omega) hN', h2]
    rw [hbc, hlo, hhi, IntOp.andi_eq_one, IntOp.cmpi_sge, IntOp.cmpi_sle, not_neg h1 hN', h3]
    have h0 : (0#32 : BitVec 32).toInt = 0 := by decide
    rw [h0]
    omega
  refine (if_pos hm).trans ?_
  have hk := ha (ValueIdx.ix1 p)
  refine (Routing.take_ap d hcoll hob hsim hivd tab _ p hk (by omega) ?_).trans ?_
  · rw [hbc]
    exact ((BitVec.ofNat_toNat 32 (a (ValueIdx.ix1 p))).trans (BitVec.setWidth_eq _)).symm
  · exact (entry_of hN tab ⟨_, hk⟩).symm

/-- An update lands at an entry when its index word, read signed, is the entry. -/
theorem lands (d : ScatterDims (shape1 N) (shape2 n 1) (shape1 n)) (hiw : d.insertedWindowDims = [0])
    (hsd : d.scatterDimsToOperandDims = [0]) (hivd : d.indexVectorDim = 1) (idx : IVec (shape2 n 1) 32) (p : Fin n) (e : Fin N) :
    d.resultIdx? (ValueIdx.ix1 p) idx = some (ValueIdx.ix1 e) ↔ (idx (ValueIdx.ix2 p (0 : Fin 1))).toInt = (e.val : ℤ) := by
  have hm : (0 : Fin 1) ∈ d.scatterDimsToOperandDims := by rw [hsd]; exact List.mem_singleton.2 rfl
  have hwin : d.window (ValueIdx.ix1 p) 0 = 0 := by
    unfold ScatterDims.window
    exact dif_neg fun h => (of_decide_eq_true (List.mem_filter.1 h).2) (by rw [hiw]; exact List.mem_singleton.2 rfl)
  have hsi : d.siIdx (ValueIdx.ix1 p) ⟨d.scatterDimsToOperandDims.idxOf 0, List.idxOf_lt_length_iff.2 hm⟩ = ValueIdx.ix2 p (0 : Fin 1) := by
    funext b
    match b with
    | ⟨1, _⟩ => exact Subsingleton.elim (α := Fin 1) _ _
    | ⟨0, _⟩ =>
      refine Fin.ext ?_
      unfold ScatterDims.siIdx
      rw [dif_neg (by rw [hivd]; exact Nat.zero_ne_one)]
      have all : ∀ c : Fin 1, ((ValueIdx.ix1 p : (shape1 n).Idx) c).val = p.val := fun c => by
        obtain rfl : c = 0 := Subsingleton.elim _ _
        rfl
      exact all _
  have hstart : d.start (ValueIdx.ix1 p) idx 0 = (idx (ValueIdx.ix2 p (0 : Fin 1))).toInt := by
    unfold ScatterDims.start
    rw [dif_pos hm, hsi]
  rw [Routing.resultIdx?_ix1, hstart, hwin, Nat.cast_zero, add_zero]

/-- A segment sum: at each entry, the updates whose segment it is. -/
theorem segment_apply (d : ScatterDims (shape1 N) (shape2 n 1) (shape1 n)) (hiw : d.insertedWindowDims = [0])
    (hsd : d.scatterDimsToOperandDims = [0]) (hivd : d.indexVectorDim = 1) (x : (shape1 N).Idx → EReal) (idx : IVec (shape2 n 1) 32)
    (upd : (shape1 n).Idx → EReal) (e : Fin N) :
    Host.scatterAdd (F := Ideal) (φ := .f32) d x idx upd (ValueIdx.ix1 e)
      = (x (ValueIdx.ix1 e) + ∑ p : Fin n, if (idx (ValueIdx.ix2 p (0 : Fin 1))).toInt = (e.val : ℤ) then upd (ValueIdx.ix1 p) else 0 : EReal) := by
  refine congrArg (fun t : EReal => (x (ValueIdx.ix1 e) + t : EReal)) ?_
  rw [Finset.sum_filter]
  refine (sum_idx1 (n0 := n) _).trans (Fintype.sum_congr _ _ fun p => ?_)
  exact if_congr (lands d hiw hsd hivd idx p e) rfl rfl
/-- A segment sum, onto zeros, of entries taken from a table and weighted. -/
theorem pool_apply {M : ℕ} (hn : 0 < n) (hN : 0 < N) (hM : M < 2 ^ 31) (d : ScatterDims (shape1 M) (shape2 n 1) (shape1 n)) (hiw : d.insertedWindowDims = [0])
    (hsd : d.scatterDimsToOperandDims = [0]) (hivd : d.indexVectorDim = 1) (hb : (shape1 n).BroadcastsInDim (shape2 n 1) ![0])
    (x : (shape1 M).Idx → EReal) (seg a : IVec (shape1 n) 32) (tab : (shape1 N).Idx → EReal) (w : ℕ → EReal) (upd : (shape1 n).Idx → EReal)
    (hx : ∀ i, x i = 0) (hseg : ∀ i, (seg i).toNat < M) (hupd : ∀ p : Fin n, upd (ValueIdx.ix1 p) = entry hN tab (a (ValueIdx.ix1 p)).toNat * w p.val)
    (e : Fin M) :
    Host.scatterAdd (F := Ideal) (φ := .f32) d x (broadcastInDim (shape2 n 1) ![0] hb seg) upd (ValueIdx.ix1 e)
      = ∑ i ∈ range n, term hn hN seg a tab w e.val i := by
  rw [segment_apply d hiw hsd hivd, hx, zero_add, sum_range]
  refine Fintype.sum_congr _ _ fun p => ?_
  unfold term
  rw [entry_of hn seg p, entry_of hn a p, column_apply hb seg, hupd, not_neg (hseg _) hM]
  exact if_congr Nat.cast_inj rfl rfl

/-- The same with the weights multiplied in by the host. -/
theorem pool_mul {M : ℕ} (hn : 0 < n) (hN : 0 < N) (hM : M < 2 ^ 31) (d : ScatterDims (shape1 M) (shape2 n 1) (shape1 n)) (hiw : d.insertedWindowDims = [0])
    (hsd : d.scatterDimsToOperandDims = [0]) (hivd : d.indexVectorDim = 1) (hb : (shape1 n).BroadcastsInDim (shape2 n 1) ![0])
    (x : (shape1 M).Idx → EReal) (seg a : IVec (shape1 n) 32) (tab : (shape1 N).Idx → EReal) (v c : FVec Ideal (shape1 n) .f32)
    (hx : ∀ i, x i = 0) (hseg : ∀ i, (seg i).toNat < M) (hv : ∀ p : Fin n, v (ValueIdx.ix1 p) = entry hN tab (a (ValueIdx.ix1 p)).toNat)
    (e : Fin M) :
    Host.scatterAdd (F := Ideal) (φ := .f32) d x (broadcastInDim (shape2 n 1) ![0] hb seg) (mulf v c) (ValueIdx.ix1 e)
      = ∑ i ∈ range n, term hn hN seg a tab (entry hn c) e.val i :=
  pool_apply hn hN hM d hiw hsd hivd hb x seg a tab _ _ hx hseg
    (fun p => congrArg₂ (fun x y : EReal => x * y) (hv p) (entry_of hn c p).symm) e

/-- The same with no weights. -/
theorem pool_one {M : ℕ} (hn : 0 < n) (hN : 0 < N) (hM : M < 2 ^ 31) (d : ScatterDims (shape1 M) (shape2 n 1) (shape1 n)) (hiw : d.insertedWindowDims = [0])
    (hsd : d.scatterDimsToOperandDims = [0]) (hivd : d.indexVectorDim = 1) (hb : (shape1 n).BroadcastsInDim (shape2 n 1) ![0])
    (x : (shape1 M).Idx → EReal) (seg a : IVec (shape1 n) 32) (tab : (shape1 N).Idx → EReal) (v : FVec Ideal (shape1 n) .f32)
    (hx : ∀ i, x i = 0) (hseg : ∀ i, (seg i).toNat < M) (hv : ∀ p : Fin n, v (ValueIdx.ix1 p) = entry hN tab (a (ValueIdx.ix1 p)).toNat)
    (e : Fin M) :
    Host.scatterAdd (F := Ideal) (φ := .f32) d x (broadcastInDim (shape2 n 1) ![0] hb seg) v (ValueIdx.ix1 e)
      = ∑ i ∈ range n, term hn hN seg a tab (fun _ => 1) e.val i :=
  pool_apply hn hN hM d hiw hsd hivd hb x seg a tab _ _ hx hseg (fun p => (hv p).trans (mul_one _).symm) e

/-- Three vectors added, the last one constant. -/
theorem add3_apply {s : Shape} (A B C : FVec Ideal s .f32) (c : EReal) (hC : ∀ i, C i = c) (i : s.Idx) {x y : EReal} (hx : A i = x) (hy : B i = y) :
    addf (addf A B) C i = (x + y + c : EReal) := by
  subst hx hy
  exact congrArg (fun t : EReal => A i + B i + t) (hC i)
end General

/-! ## The reference -/

open Cert.ReferenceIdeal Cert.ReferenceIdeal.Gen

/-- The reference's result, as its operations compose it. -/
def ref (a0 : IVec S100000 32) (a1 : FVec Ideal S1600000 .f32) (a2 : IVec S1600000 32)
    (a3 : IVec S100000 32) (a4 : IVec S1600000 32) (a5 : FVec Ideal S8 .f32) (a6 : FVec Ideal S64 .f32) : FVec Ideal S1024 .f32 :=
    addf (addf (Host.scatterAdd scatter_S1024_S1600000x1_S1600000_n_0_0_1 (broadcastInDim S1024 ![] bcast_S_S1024 (constant S_ .f32 0x00000000#32)) (broadcastInDim S1600000x1 ![0] bcast_S1600000_S1600000x1_0 a4)
    (mulf
      (select (Host.reduce IntOp.andi (andi (cmpi .sge (broadcastInDim S1600000x1 ![0] bcast_S1600000_S1600000x1_0 (select (cmpi .slt a2 (broadcastInDim S1600000 ![] bcast_S_S1600000 (constantI S_ 32 0#32))) (addi a2 (broadcastInDim S1600000 ![] bcast_S_S1600000 (constantI S_ 32 64#32))) a2)) (broadcastInDim S1600000x1 ![] bcast_S_S1600000x1 (constantI S_ 32 0#32)))
        (cmpi .sle (broadcastInDim S1600000x1 ![0] bcast_S1600000_S1600000x1_0 (select (cmpi .slt a2 (broadcastInDim S1600000 ![] bcast_S_S1600000 (constantI S_ 32 0#32))) (addi a2 (broadcastInDim S1600000 ![] bcast_S_S1600000 (constantI S_ 32 64#32))) a2)) (broadcastInDim S1600000x1 ![0, 1] bcast_S1x1_S1600000x1_0_1 (broadcastInDim S1x1 ![1] bcast_S1_S1x1_1 (constantI S1 32 63#32))))) (constantI S_ 1 1#1) reducesTo_S1600000x1_S1600000_d1 h_S_)
        (Host.gather gather_S64_S1600000x1_S1600000_n_0_n_n_0_1_1 a6 (broadcastInDim S1600000x1 ![0] bcast_S1600000_S1600000x1_0 (select (cmpi .slt a2 (broadcastInDim S1600000 ![] bcast_S_S1600000 (constantI S_ 32 0#32))) (addi a2 (broadcastInDim S1600000 ![] bcast_S_S1600000 (constantI S_ 32 64#32))) a2))) (broadcastInDim S1600000 ![] bcast_S_S1600000 (constant S_ .f32 0x7FC00000#32))) a1))
    (Host.scatterAdd scatter_S1024_S100000x1_S100000_n_0_0_1 (broadcastInDim S1024 ![] bcast_S_S1024 (constant S_ .f32 0x00000000#32)) (broadcastInDim S100000x1 ![0] bcast_S100000_S100000x1_0 a3)
      (select (Host.reduce IntOp.andi (andi (cmpi .sge (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 8#32))) a0)) (broadcastInDim S100000x1 ![] bcast_S_S100000x1 (constantI S_ 32 0#32)))
        (cmpi .sle (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 8#32))) a0)) (broadcastInDim S100000x1 ![0, 1] bcast_S1x1_S100000x1_0_1 (broadcastInDim S1x1 ![1] bcast_S1_S1x1_1 (constantI S1 32 7#32))))) (constantI S_ 1 1#1) reducesTo_S100000x1_S100000_d1 h_S_)
        (Host.gather gather_S8_S100000x1_S100000_n_0_n_n_0_1_1 a5 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 8#32))) a0))) (broadcastInDim S100000 ![] bcast_S_S100000 (constant S_ .f32 0x7FC00000#32)))))
    (broadcastInDim S1024 ![] bcast_S_S1024 (constant S_ .f32 0x3F000000#32))

/-- Its entries are the sums. -/
theorem ref_apply (a0 : IVec S100000 32) (a1 : FVec Ideal S1600000 .f32) (a2 : IVec S1600000 32)
    (a3 : IVec S100000 32) (a4 : IVec S1600000 32) (a5 : FVec Ideal S8 .f32) (a6 : FVec Ideal S64 .f32)
    (h : Ranges a0 a2 a3 a4) (e : Fin 1024) : ref a0 a1 a2 a3 a4 a5 a6 (ValueIdx.ix1 e) = total a0 a1 a2 a3 a4 a5 a6 e.val := by
  have w2 : select (cmpi .slt a2 (broadcastInDim S1600000 ![] bcast_S_S1600000 (constantI S_ 32 0#32)))
      (addi a2 (broadcastInDim S1600000 ![] bcast_S_S1600000 (constantI S_ 32 64#32))) a2 = a2 :=
    wrap_eq (N := 64) a2 _ _ rfl (by decide) h.basis
  have w0 : select (cmpi .slt a0 (broadcastInDim S100000 ![] bcast_S_S100000 (constantI S_ 32 0#32)))
      (addi a0 (broadcastInDim S100000 ![] bcast_S_S100000 (constantI S_ 32 8#32))) a0 = a0 :=
    wrap_eq (N := 8) a0 _ _ rfl (by decide) h.types
  unfold ref
  rw [w2, w0]
  have zero : ∀ i : S1024.Idx, (broadcastInDim S1024 ![] bcast_S_S1024 (constant (F := Ideal) S_ .f32 0x00000000#32) i : EReal) = 0 :=
    fun _ => Ideal.ofBits_zero_f32
  have t2 := take_apply gather_S64_S1600000x1_S1600000_n_0_n_n_0_1_1 rfl rfl rfl rfl hG (by decide) bcast_S1600000_S1600000x1_0
    reducesTo_S1600000x1_S1600000_d1 h_S_ a6 (broadcastInDim S1600000 ![] bcast_S_S1600000 (constant (F := Ideal) S_ .f32 0x7FC00000#32)) a2
    (broadcastInDim S1600000x1 ![] bcast_S_S1600000x1 (constantI S_ 32 0#32))
    (broadcastInDim S1600000x1 ![0, 1] bcast_S1x1_S1600000x1_0_1 (broadcastInDim S1x1 ![1] bcast_S1_S1x1_1 (constantI S1 32 63#32)))
    (constantI S_ 1 1#1) rfl rfl rfl h.basis
  have t0 := take_apply gather_S8_S100000x1_S100000_n_0_n_n_0_1_1 rfl rfl rfl rfl h8 (by decide) bcast_S100000_S100000x1_0
    reducesTo_S100000x1_S100000_d1 h_S_ a5 (broadcastInDim S100000 ![] bcast_S_S100000 (constant (F := Ideal) S_ .f32 0x7FC00000#32)) a0
    (broadcastInDim S100000x1 ![] bcast_S_S100000x1 (constantI S_ 32 0#32))
    (broadcastInDim S100000x1 ![0, 1] bcast_S1x1_S100000x1_0_1 (broadcastInDim S1x1 ![1] bcast_S1_S1x1_1 (constantI S1 32 7#32)))
    (constantI S_ 1 1#1) rfl rfl rfl h.types
  have p2 := pool_mul hC hG (by decide) scatter_S1024_S1600000x1_S1600000_n_0_0_1 rfl rfl rfl bcast_S1600000_S1600000x1_0 _ a4 a2 a6 _ a1
    zero h.coeffSeg t2 e
  have p0 := pool_one hA h8 (by decide) scatter_S1024_S100000x1_S100000_n_0_0_1 rfl rfl rfl bcast_S100000_S100000x1_0 _ a3 a0 a5 _
    zero h.atomSeg t0 e
  unfold total
  exact add3_apply _ _ _ _ (fun _ => rfl) _ p2 p0

/-- Over the extended reals the kernel's result is the reference's. -/
theorem value_eq (m : (ℓ : Loc Cert.KernelIdeal.nD Cert.KernelIdeal.τ Cert.KernelIdeal.sig) → Buf (Elt Ideal) ℓ) (h : Good (F := Ideal) m)
    (d : Dev Cert.KernelIdeal.nD) :
    ref (m (loc d Cert.KernelIdeal.main_arg0)) (m (loc d Cert.KernelIdeal.main_arg1)) (m (loc d Cert.KernelIdeal.main_arg2))
      (m (loc d Cert.KernelIdeal.main_arg3)) (m (loc d Cert.KernelIdeal.main_arg4)) (m (loc d Cert.KernelIdeal.main_arg5))
      (m (loc d Cert.KernelIdeal.main_arg6)) = value m h d := by
  funext j
  rw [ValueIdx.eq_ix1 j]
  exact (ref_apply _ _ _ _ _ _ _ (h d) (j 0)).trans (kernel_apply _ _ _ _ _ _ _ (h d) (ValueIdx.ix1 (j 0))).symm

end Cert.Proof.Sc

end
-- ==== Proof.lean ====
/-
  The proof of `Cert.Claim`: the three frames, the kernel's from its one run (ScPre.lean) and the reference's from its own
  line of host operations, and that over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.ScPre
public import proofs.«01_k».proof.Proof.ScRef
public import Idealize.ShloMosaic.Adequacy
public import Idealize.ShloMosaic.Init

@[expose] public section

noncomputable section

namespace Cert.Proof

open Idealize.ShloMosaic Idealize.SL.Sem

/-- The precondition, as ranges, at both kernels' float values. -/
theorem good_kernel (m : (ℓ : Loc Cert.Kernel.nD Cert.Kernel.τ Cert.Kernel.sig) → Buf (Elt Bits) ℓ) (h : Cert.Pre_Kernel m) :
    Sc.Good (F := Bits) m := fun d => Sc.ranges _ _ _ _ _ _ _ (h d)
theorem good_kernelIdeal (m : (ℓ : Loc Cert.KernelIdeal.nD Cert.KernelIdeal.τ Cert.KernelIdeal.sig) → Buf (Elt Ideal) ℓ)
    (h : Cert.Pre_KernelIdeal m) : Sc.Good (F := Ideal) m := fun d => Sc.ranges _ _ _ _ _ _ _ (h d)

set_option maxRecDepth 20000 in
/-- No operation is replaced, so the two kernels' bodies are the same, processor by processor; -/
theorem bodies_eq : Cert.Kernel.defs₀ (F := Bits) = Cert.KernelIdeal.defs₀ (F := Bits) := by
  funext p ℓ
  match p, ℓ with
  | .tc, 0 => rfl
  | .tc, 1 => rfl
  | .scScalar _, 0 => rfl
  | .scScalar _, 1 => rfl
  | .scVector c s, 0 => rfl
  | .scVector c s, 1 => rfl

set_option maxRecDepth 20000 in
/-- and so are their programs. -/
theorem defs_eq : Cert.Kernel.defs (F := Bits) = Cert.KernelIdeal.defs (F := Bits) := by
  unfold Cert.Kernel.defs Cert.KernelIdeal.defs
  rw [bodies_eq]
  rfl

set_option maxRecDepth 20000 in
/-- The kernel's frame is the run at the words. -/
theorem frame_kernel : Cert.quiescent_Kernel := by
  intro m ρ h
  rw [defs_eq]
  exact (θ_run (Cert.KernelIdeal.defs (F := Bits)) _ _).mono (fun _ h => ⟨fun d => (h.1 d).2, h.2⟩)
    (Sc.run (F := Bits) m ρ (good_kernel m h))

theorem frame_kernelIdeal : Cert.quiescent_KernelIdeal := fun m ρ h =>
  (θ_run Cert.KernelIdeal.defs _ _).mono (fun _ h => ⟨fun d => (h.1 d).2, h.2⟩) (Sc.run (F := Ideal) m ρ (good_kernelIdeal m h))

/-- The reference's run at its arguments; it declares no semaphore. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- The kernel's result is the reference's. -/
theorem algebraic : Cert.algebraic_KernelIdeal_ReferenceIdeal := by
  intro m g m' g' h agree
  have good := good_kernelIdeal m h
  refine ⟨fun d => Sc.value (F := Ideal) m good d, (θ_run Cert.KernelIdeal.defs _ _).mono (fun _ hr => hr.1) (Sc.run (F := Ideal) m g good),
    (θ_run Cert.ReferenceIdeal.defs _ _).mono (fun r hr c => ⟨?_, (hr c).2⟩) (Cert.ReferenceIdeal.Value.run (F := Ideal) m' g')⟩
  obtain ⟨e0, e1, e2, e3, e4, e5, e6⟩ := agree c
  refine Eq.trans ?_ (Sc.value_eq m good c)
  refine (hr c).1.trans ?_
  rw [e0, e1, e2, e3, e4, e5, e6]
  rfl

theorem claim : Cert.Claim := ⟨Cert.Kernel.Gen.facts, Cert.KernelIdeal.Gen.facts, Cert.ReferenceIdeal.Gen.facts, Cert.Pre_in_range.Gen.facts,
  frame_kernel, frame_kernelIdeal, frame_reference, fun m ρ _ => frame_reference m ρ trivial, trivial, algebraic⟩

end Cert.Proof

end
